-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre_KernelIdeal [hPre_pre_KernelIdeal : Cert.Pre_pre_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_pre_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_ReferenceIdeal [hPre_pre_ReferenceIdeal : Cert.Pre_pre_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre_KernelIdeal [hKernelIdeal : Cert.KernelIdeal.Facts] [hPre_pre_KernelIdeal : Cert.Pre_pre_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre_ReferenceIdeal [hReferenceIdeal : Cert.ReferenceIdeal.Facts] [hPre_pre_ReferenceIdeal : Cert.Pre_pre_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_pre_KernelIdeal [hKernelIdeal : Cert.KernelIdeal.Facts] [hReferenceIdeal : Cert.ReferenceIdeal.Facts] [hPre_pre_KernelIdeal : Cert.Pre_pre_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![64, 16, 8, 64]⟩ ⟨4, ![128, 16, 8, 64]⟩ (Layout.meshBlock [2, 2] ![[1], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![64, 16, 8, 64]⟩ ⟨4, ![128, 16, 8, 64]⟩ (Layout.meshBlock [2, 2] ![[1], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre_KernelIdeal : Cert.Pre_pre_KernelIdeal.Facts) (hPre_pre_ReferenceIdeal : Cert.Pre_pre_ReferenceIdeal.Facts),
    quiescent_Kernel (hKernel := hKernel)
    ∧ quiescent_KernelIdeal (hKernelIdeal := hKernelIdeal)
    ∧ quiescent_KernelIdeal_pre_pre_KernelIdeal (hKernelIdeal := hKernelIdeal) (hPre_pre_KernelIdeal := hPre_pre_KernelIdeal)
    ∧ quiescent_ReferenceIdeal (hReferenceIdeal := hReferenceIdeal)
    ∧ quiescent_ReferenceIdeal_pre_pre_ReferenceIdeal (hReferenceIdeal := hReferenceIdeal) (hPre_pre_ReferenceIdeal := hPre_pre_ReferenceIdeal)
    ∧ preserves_Kernel_KernelIdeal
    ∧ algebraic_KernelIdeal_ReferenceIdeal_pre_pre_KernelIdeal (hKernelIdeal := hKernelIdeal) (hReferenceIdeal := hReferenceIdeal) (hPre_pre_KernelIdeal := hPre_pre_KernelIdeal)
-- ==== Pre_pre_KernelIdeal.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S64 : Shape := ⟨1, ![64]⟩
abbrev S1x64 : Shape := ⟨2, ![1, 64]⟩
abbrev S8x1 : Shape := ⟨2, ![8, 1]⟩
abbrev S_ : Shape := ⟨0, ![]⟩

class Facts : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bcast_S_S8x64 : S_.BroadcastsInDim S8x64 (![] : Fin 0 → Fin S8x64.rank)
  reducesTo_S8x64_S_d0_1 : S8x64.ReducesTo [0, 1] S_
  h_S_ : 0 < S_.numel
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S64x16x8x64 : S_.BroadcastsInDim S64x16x8x64 (![] : Fin 0 → Fin S64x16x8x64.rank)
  reducesTo_S64x16x8x64_S_d0_1_2_3 : S64x16x8x64.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_arg4 : IVec S8 32) (main_v13 : IVec S_ 1) (main_v17 : IVec S_ 1) (main_v18 : FVec F S64x16x8x64 .f32) : IVec S_ 1 :=
  let main_cst_3 : FVec F S_ .f32 := constant S_ .f32 0x7F800000#32
  let main_v19 : FVec F S64x16x8x64 .f32 := broadcastInDim S64x16x8x64 ![] bcast_S_S64x16x8x64 main_cst_3
  let main_v20 : IVec S64x16x8x64 1 := cmpf .olt main_v18 main_v19
  let main_c_4 : IVec S_ 1 := constantI S_ 1 1#1
  let main_v21 : IVec S_ 1 := (fun x v => Host.reduce IntOp.andi x v reducesTo_S64x16x8x64_S_d0_1_2_3 h_S_) main_v20 main_c_4
  let main_v22 : IVec S_ 1 := andi main_v17 main_v21
  let main_c_5 : IVec S_ 32 := constantI S_ 32 1#32
  let main_v23 : IVec S8 32 := broadcastInDim S8 ![] bcast_S_S8 main_c_5
  let main_v24 : IVec S8 1 := cmpi .sge main_arg4 main_v23
  let main_c_6 : IVec S_ 1 := constantI S_ 1 1#1
  let main_v25 : IVec S_ 1 := (fun x v => Host.reduce IntOp.andi x v reducesTo_S8_S_d0 h_S_) main_v24 main_c_6
  let main_v26 : IVec S_ 1 := andi main_v22 main_v25
  let main_v27 : IVec S_ 1 := andi main_v26 main_v13
  main_v27

def fn {F : FTy → Type} [FloatOps F] (main_arg0 : FVec F S8x1x8x64 .f32) (main_arg1 : FVec F S64x16x8x64 .f32) (main_arg2 : FVec F S64x16x8x64 .f32) (main_arg3 : IVec S8x64 32) (main_arg4 : IVec S8 32) : IVec S_ 1 :=
  let main_v0 : IVec S64 32 := iotaInDim S64 32 0
  let main_v1 : IVec S1x64 32 := broadcastInDim S1x64 ![1] bcast_S64_S1x64_1 main_v0
  let main_v2 : IVec S8x1 32 := broadcastInDim S8x1 ![0] bcast_S8_S8x1_0 main_arg4
  let main_v3 : IVec S8x64 32 := broadcastInDim S8x64 ![0, 1] bcast_S1x64_S8x64_0_1 main_v1
  let main_v4 : IVec S8x64 32 := broadcastInDim S8x64 ![0, 1] bcast_S8x1_S8x64_0_1 main_v2
  let main_v5 : IVec S8x64 1 := cmpi .slt main_v3 main_v4
  let main_v6 : IVec S8x64 1 := noti main_v5
  let main_c : IVec S_ 32 := constantI S_ 32 0#32
  let main_v7 : IVec S8x64 32 := broadcastInDim S8x64 ![] bcast_S_S8x64 main_c
  let main_v8 : IVec S8x64 1 := cmpi .sge main_arg3 main_v7
  let main_c_0 : IVec S_ 32 := constantI S_ 32 128#32
  let main_v9 : IVec S8x64 32 := broadcastInDim S8x64 ![] bcast_S_S8x64 main_c_0
  let main_v10 : IVec S8x64 1 := cmpi .slt main_arg3 main_v9
  let main_v11 : IVec S8x64 1 := andi main_v8 main_v10
  let main_v12 : IVec S8x64 1 := ori main_v6 main_v11
  let main_c_1 : IVec S_ 1 := constantI S_ 1 1#1
  let main_v13 : IVec S_ 1 := (fun x v => Host.reduce IntOp.andi x v reducesTo_S8x64_S_d0_1 h_S_) main_v12 main_c_1
  let main_v14 : FVec F S8x1x8x64 .f32 := Host.absf main_arg0
  let main_cst : FVec F S_ .f32 := constant S_ .f32 0x7F800000#32
  let main_v15 : FVec F S8x1x8x64 .f32 := broadcastInDim S8x1x8x64 ![] bcast_S_S8x1x8x64 main_cst
  let main_v16 : IVec S8x1x8x64 1 := cmpf .olt main_v14 main_v15
  let main_c_2 : IVec S_ 1 := constantI S_ 1 1#1
  let main_v17 : IVec S_ 1 := (fun x v => Host.reduce IntOp.andi x v reducesTo_S8x1x8x64_S_d0_1_2_3 h_S_) main_v16 main_c_2
  let main_v18 : FVec F S64x16x8x64 .f32 := Host.absf main_arg1
  fn_part1 (F := F) main_arg4 main_v13 main_v17 main_v18
-- ==== Pre_pre_ReferenceIdeal.lean ====
abbrev S8x1x8x64 : Shape := ⟨4, ![8, 1, 8, 64]⟩
abbrev S128x16x8x64 : Shape := ⟨4, ![128, 16, 8, 64]⟩
abbrev S8x64 : Shape := ⟨2, ![8, 64]⟩
abbrev S8 : Shape := ⟨1, ![8]⟩
abbrev S64 : Shape := ⟨1, ![64]⟩
abbrev S1x64 : Shape := ⟨2, ![1, 64]⟩
abbrev S8x1 : Shape := ⟨2, ![8, 1]⟩
abbrev S_ : Shape := ⟨0, ![]⟩

class Facts : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bcast_S_S8x64 : S_.BroadcastsInDim S8x64 (![] : Fin 0 → Fin S8x64.rank)
  reducesTo_S8x64_S_d0_1 : S8x64.ReducesTo [0, 1] S_
  h_S_ : 0 < S_.numel
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S128x16x8x64 : S_.BroadcastsInDim S128x16x8x64 (![] : Fin 0 → Fin S128x16x8x64.rank)
  reducesTo_S128x16x8x64_S_d0_1_2_3 : S128x16x8x64.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_arg4 : IVec S8 32) (main_v13 : IVec S_ 1) (main_v17 : IVec S_ 1) (main_v18 : FVec F S128x16x8x64 .f32) : IVec S_ 1 :=
  let main_cst_3 : FVec F S_ .f32 := constant S_ .f32 0x7F800000#32
  let main_v19 : FVec F S128x16x8x64 .f32 := broadcastInDim S128x16x8x64 ![] bcast_S_S128x16x8x64 main_cst_3
  let main_v20 : IVec S128x16x8x64 1 := cmpf .olt main_v18 main_v19
  let main_c_4 : IVec S_ 1 := constantI S_ 1 1#1
  let main_v21 : IVec S_ 1 := (fun x v => Host.reduce IntOp.andi x v reducesTo_S128x16x8x64_S_d0_1_2_3 h_S_) main_v20 main_c_4
  let main_v22 : IVec S_ 1 := andi main_v17 main_v21
  let main_c_5 : IVec S_ 32 := constantI S_ 32 1#32
  let main_v23 : IVec S8 32 := broadcastInDim S8 ![] bcast_S_S8 main_c_5
  let main_v24 : IVec S8 1 := cmpi .sge main_arg4 main_v23
  let main_c_6 : IVec S_ 1 := constantI S_ 1 1#1
  let main_v25 : IVec S_ 1 := (fun x v => Host.reduce IntOp.andi x v reducesTo_S8_S_d0 h_S_) main_v24 main_c_6
  let main_v26 : IVec S_ 1 := andi main_v22 main_v25
  let main_v27 : IVec S_ 1 := andi main_v26 main_v13
  main_v27

def fn {F : FTy → Type} [FloatOps F] (main_arg0 : FVec F S8x1x8x64 .f32) (main_arg1 : FVec F S128x16x8x64 .f32) (main_arg2 : FVec F S128x16x8x64 .f32) (main_arg3 : IVec S8x64 32) (main_arg4 : IVec S8 32) : IVec S_ 1 :=
  let main_v0 : IVec S64 32 := iotaInDim S64 32 0
  let main_v1 : IVec S1x64 32 := broadcastInDim S1x64 ![1] bcast_S64_S1x64_1 main_v0
  let main_v2 : IVec S8x1 32 := broadcastInDim S8x1 ![0] bcast_S8_S8x1_0 main_arg4
  let main_v3 : IVec S8x64 32 := broadcastInDim S8x64 ![0, 1] bcast_S1x64_S8x64_0_1 main_v1
  let main_v4 : IVec S8x64 32 := broadcastInDim S8x64 ![0, 1] bcast_S8x1_S8x64_0_1 main_v2
  let main_v5 : IVec S8x64 1 := cmpi .slt main_v3 main_v4
  let main_v6 : IVec S8x64 1 := noti main_v5
  let main_c : IVec S_ 32 := constantI S_ 32 0#32
  let main_v7 : IVec S8x64 32 := broadcastInDim S8x64 ![] bcast_S_S8x64 main_c
  let main_v8 : IVec S8x64 1 := cmpi .sge main_arg3 main_v7
  let main_c_0 : IVec S_ 32 := constantI S_ 32 128#32
  let main_v9 : IVec S8x64 32 := broadcastInDim S8x64 ![] bcast_S_S8x64 main_c_0
  let main_v10 : IVec S8x64 1 := cmpi .slt main_arg3 main_v9
  let main_v11 : IVec S8x64 1 := andi main_v8 main_v10
  let main_v12 : IVec S8x64 1 := ori main_v6 main_v11
  let main_c_1 : IVec S_ 1 := constantI S_ 1 1#1
  let main_v13 : IVec S_ 1 := (fun x v => Host.reduce IntOp.andi x v reducesTo_S8x64_S_d0_1 h_S_) main_v12 main_c_1
  let main_v14 : FVec F S8x1x8x64 .f32 := Host.absf main_arg0
  let main_cst : FVec F S_ .f32 := constant S_ .f32 0x7F800000#32
  let main_v15 : FVec F S8x1x8x64 .f32 := broadcastInDim S8x1x8x64 ![] bcast_S_S8x1x8x64 main_cst
  let main_v16 : IVec S8x1x8x64 1 := cmpf .olt main_v14 main_v15
  let main_c_2 : IVec S_ 1 := constantI S_ 1 1#1
  let main_v17 : IVec S_ 1 := (fun x v => Host.reduce IntOp.andi x v reducesTo_S8x1x8x64_S_d0_1_2_3 h_S_) main_v16 main_c_2
  let main_v18 : FVec F S128x16x8x64 .f32 := Host.absf main_arg1
  fn_part1 (F := F) main_arg4 main_v13 main_v17 main_v18
-- ==== Kernel.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S8x8x64 : Shape := ⟨3, ![8, 8, 64]⟩
abbrev S8x8x1 : Shape := ⟨3, ![8, 8, 1]⟩
abbrev S2 : Shape := ⟨1, ![2]⟩
abbrev S_ : Shape := ⟨0, ![]⟩
abbrev S8x1 : Shape := ⟨2, ![8, 1]⟩
abbrev S64x1024 : Shape := ⟨2, ![64, 1024]⟩
abbrev S8x1024 : Shape := ⟨2, ![8, 1024]⟩
abbrev S32x256 : Shape := ⟨2, ![32, 256]⟩
abbrev S32x1024 : Shape := ⟨2, ![32, 1024]⟩
abbrev S8x1x4x64 : Shape := ⟨4, ![8, 1, 4, 64]⟩
abbrev S8x4x64 : Shape := ⟨3, ![8, 4, 64]⟩
abbrev S8x256 : Shape := ⟨2, ![8, 256]⟩
abbrev S64x16x4x64 : Shape := ⟨4, ![64, 16, 4, 64]⟩
abbrev S1024x256 : Shape := ⟨2, ![1024, 256]⟩
abbrev S32 : Shape := ⟨1, ![32]⟩
abbrev S32x1 : Shape := ⟨2, ![32, 1]⟩
abbrev S1x8x64 : Shape := ⟨3, ![1, 8, 64]⟩
abbrev S1x8x1 : Shape := ⟨3, ![1, 8, 1]⟩
abbrev S1 : Shape := ⟨1, ![1]⟩
abbrev S4x8x64 : Shape := ⟨3, ![4, 8, 64]⟩
abbrev S4x8x1 : Shape := ⟨3, ![4, 8, 1]⟩
abbrev S8x1x1x64 : Shape := ⟨4, ![8, 1, 1, 64]⟩

abbrev nBuf : Space → Nat
  | .hbm => 6
  | .vmem => 10
  | .smem => 0
  | _ => 0

abbrev bufTy : (tb : Table) → Fin (tcTables nBuf tb) → BufTy
  | .hbm, ⟨0, _⟩ => ⟨S8x1x8x64, .f32⟩
  | .hbm, ⟨1, _⟩ => ⟨S64x16x8x64, .f32⟩
  | .hbm, ⟨2, _⟩ => ⟨S64x16x8x64, .f32⟩
  | .hbm, ⟨3, _⟩ => ⟨S8x64, .i32⟩
  | .hbm, ⟨4, _⟩ => ⟨S8, .i32⟩
  | .hbm, ⟨5, _⟩ => ⟨S8x1x8x64, .f32⟩
  | .local _ .vmem, ⟨0, _⟩ => ⟨S8x1x8x64, .f32⟩
  | .local _ .vmem, ⟨1, _⟩ => ⟨S64x16x8x64, .f32⟩
  | .local _ .vmem, ⟨2, _⟩ => ⟨S64x16x8x64, .f32⟩
  | .local _ .vmem, ⟨3, _⟩ => ⟨S8x64, .i32⟩
  | .local _ .vmem, ⟨4, _⟩ => ⟨S8, .i32⟩
  | .local _ .vmem, ⟨5, _⟩ => ⟨S8x1x8x64, .f32⟩
  | .local _ .vmem, ⟨6, _⟩ => ⟨S8x8x64, .f32⟩
  | .local _ .vmem, ⟨7, _⟩ => ⟨S8x8x64, .f32⟩
  | .local _ .vmem, ⟨8, _⟩ => ⟨S8x8x1, .f32⟩
  | .local _ .vmem, ⟨9, _⟩ => ⟨S8x8x1, .f32⟩
  | _, _ => ⟨S8x1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_70 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_69 : BitVec 32 := 2#32
  let v547 : BitVec 32 := Scalar.muli v2 c2_i32_69
  let v548 : BitVec 32 := Scalar.addi c0_i32_70 v547
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_71 : BitVec 32 := 1#32
  let v549 : BitVec 32 := Scalar.muli v6 c1_i32_71
  let v550 : BitVec 32 := Scalar.addi v548 v549
  v550.toNat
def k0_dev3 (d0 : Dev nD) : Nat :=
  let c0_i32_81 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_80 : BitVec 32 := 2#32
  let v557 : BitVec 32 := Scalar.muli v2 c2_i32_80
  let v558 : BitVec 32 := Scalar.addi c0_i32_81 v557
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_82 : BitVec 32 := 1#32
  let v559 : BitVec 32 := Scalar.muli v6 c1_i32_82
  let v560 : BitVec 32 := Scalar.addi v558 v559
  v560.toNat
def k0_dev4 (d0 : Dev nD) : Nat :=
  let c0_i32_125 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_124 : BitVec 32 := 2#32
  let v619 : BitVec 32 := Scalar.muli v2 c2_i32_124
  let v620 : BitVec 32 := Scalar.addi c0_i32_125 v619
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_126 : BitVec 32 := 1#32
  let v621 : BitVec 32 := Scalar.muli v6 c1_i32_126
  let v622 : BitVec 32 := Scalar.addi v620 v621
  v622.toNat
def k0_dev5 (d0 : Dev nD) : Nat :=
  let c0_i32_135 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_134 : BitVec 32 := 2#32
  let v629 : BitVec 32 := Scalar.muli v2 c2_i32_134
  let v630 : BitVec 32 := Scalar.addi c0_i32_135 v629
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_136 : BitVec 32 := 1#32
  let v631 : BitVec 32 := Scalar.muli v6 c1_i32_136
  let v632 : BitVec 32 := Scalar.addi v630 v631
  v632.toNat
abbrev stage0_0 : Fin 1 → Memref sig .tc .vmem S8x1x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x16x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x16x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x1x8x64 : Shape := ⟨4, ![8, 1, 8, 64]⟩
abbrev S128x16x8x64 : Shape := ⟨4, ![128, 16, 8, 64]⟩
abbrev S8x64 : Shape := ⟨2, ![8, 64]⟩
abbrev S8 : Shape := ⟨1, ![8]⟩
abbrev S_ : Shape := ⟨0, ![]⟩
abbrev S8x64x1 : Shape := ⟨3, ![8, 64, 1]⟩
abbrev S8x64x16x8x64 : Shape := ⟨5, ![8, 64, 16, 8, 64]⟩
abbrev S8x1024x8x64 : Shape := ⟨4, ![8, 1024, 8, 64]⟩
abbrev S8x8x1x1024 : Shape := ⟨4, ![8, 8, 1, 1024]⟩
abbrev S1024 : Shape := ⟨1, ![1024]⟩
abbrev S1x1024 : Shape := ⟨2, ![1, 1024]⟩
abbrev S8x1 : Shape := ⟨2, ![8, 1]⟩
abbrev S8x1024 : Shape := ⟨2, ![8, 1024]⟩
abbrev S8x1x1x1024 : Shape := ⟨4, ![8, 1, 1, 1024]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 72
  | .vmem => 0
  | .smem => 0
  | _ => 0

abbrev bufTy : (tb : Table) → Fin (tcTables nBuf tb) → BufTy
  | .hbm, ⟨0, _⟩ => ⟨S8x1x8x64, .f32⟩
  | .hbm, ⟨1, _⟩ => ⟨S128x16x8x64, .f32⟩
  | .hbm, ⟨2, _⟩ => ⟨S128x16x8x64, .f32⟩
  | .hbm, ⟨3, _⟩ => ⟨S8x64, .i32⟩
  | .hbm, ⟨4, _⟩ => ⟨S8, .i32⟩
  | .hbm, ⟨5, _⟩ => ⟨S_, .i32⟩
  | .hbm, ⟨6, _⟩ => ⟨S8x64, .i32⟩
  | .hbm, ⟨7, _⟩ => ⟨S8x64, .i1⟩
  | .hbm, ⟨8, _⟩ => ⟨S_, .i32⟩
  | .hbm, ⟨9, _⟩ => ⟨S8x64, .i32⟩
  | .hbm, ⟨10, _⟩ => ⟨S8x64, .i32⟩
  | .hbm, ⟨11, _⟩ => ⟨S8x64, .i32⟩
  | .hbm, ⟨12, _⟩ => ⟨S8x64x1, .i32⟩
  | .hbm, ⟨13, _⟩ => ⟨S8x64x16x8x64, .f32⟩
  | .hbm, ⟨14, _⟩ => ⟨S8x1024x8x64, .f32⟩
  | .hbm, ⟨15, _⟩ => ⟨S_, .i32⟩
  | .hbm, ⟨16, _⟩ => ⟨S8x64, .i32⟩
  | .hbm, ⟨17, _⟩ => ⟨S8x64, .i1⟩
  | .hbm, ⟨18, _⟩ => ⟨S_, .i32⟩
  | .hbm, ⟨19, _⟩ => ⟨S8x64, .i32⟩
  | .hbm, ⟨20, _⟩ => ⟨S8x64, .i32⟩
  | .hbm, ⟨21, _⟩ => ⟨S8x64, .i32⟩
  | .hbm, ⟨22, _⟩ => ⟨S8x64x1, .i32⟩
  | .hbm, ⟨23, _⟩ => ⟨S8x64x16x8x64, .f32⟩
  | .hbm, ⟨24, _⟩ => ⟨S8x1024x8x64, .f32⟩
  | .hbm, ⟨25, _⟩ => ⟨S8x8x1x1024, .f32⟩
  | .hbm, ⟨26, _⟩ => ⟨S_, .f32⟩
  | .hbm, ⟨27, _⟩ => ⟨S8x8x1x1024, .f32⟩
  | .hbm, ⟨28, _⟩ => ⟨S8x8x1x1024, .f32⟩
  | .hbm, ⟨29, _⟩ => ⟨S1024, .i32⟩
  | .hbm, ⟨30, _⟩ => ⟨S1x1024, .i32⟩
  | .hbm, ⟨31, _⟩ => ⟨S_, .i32⟩
  | .hbm, ⟨32, _⟩ => ⟨S_, .i32⟩
  | .hbm, ⟨33, _⟩ => ⟨S1x1024, .i32⟩
  | .hbm, ⟨34, _⟩ => ⟨S1x1024, .i32⟩
  | .hbm, ⟨35, _⟩ => ⟨S1x1024, .i32⟩
  | .hbm, ⟨36, _⟩ => ⟨S_, .i32⟩
  | .hbm, ⟨37, _⟩ => ⟨S1x1024, .i32⟩
  | .hbm, ⟨38, _⟩ => ⟨S1x1024, .i1⟩
  | .hbm, ⟨39, _⟩ => ⟨S1x1024, .i32⟩
  | .hbm, ⟨40, _⟩ => ⟨S1x1024, .i32⟩
  | .hbm, ⟨41, _⟩ => ⟨S_, .i32⟩
  | .hbm, ⟨42, _⟩ => ⟨S1x1024, .i32⟩
  | .hbm, ⟨43, _⟩ => ⟨S1x1024, .i1⟩
  | .hbm, ⟨44, _⟩ => ⟨S1x1024, .i1⟩
  | .hbm, ⟨45, _⟩ => ⟨S_, .i32⟩
  | .hbm, ⟨46, _⟩ => ⟨S1x1024, .i32⟩
  | .hbm, ⟨47, _⟩ => ⟨S1x1024, .i32⟩
  | .hbm, ⟨48, _⟩ => ⟨S1x1024, .i32⟩
  | .hbm, ⟨49, _⟩ => ⟨S8x1, .i32⟩
  | .hbm, ⟨50, _⟩ => ⟨S8x1024, .i32⟩
  | .hbm, ⟨51, _⟩ => ⟨S8x1024, .i32⟩
  | .hbm, ⟨52, _⟩ => ⟨S8x1024, .i1⟩
  | .hbm, ⟨53, _⟩ => ⟨S8x1x1x1024, .i1⟩
  | .hbm, ⟨54, _⟩ => ⟨S_, .f32⟩
  | .hbm, ⟨55, _⟩ => ⟨S_, .f32⟩
  | .hbm, ⟨56, _⟩ => ⟨S8x8x1x1024, .i1⟩
  | .hbm, ⟨57, _⟩ => ⟨S8x8x1x1024, .f32⟩
  | .hbm, ⟨58, _⟩ => ⟨S8x8x1x1024, .f32⟩
  | .hbm, ⟨59, _⟩ => ⟨S_, .f32⟩
  | .hbm, ⟨60, _⟩ => ⟨S8x8x1, .f32⟩
  | .hbm, ⟨61, _⟩ => ⟨S8x8x1x1, .f32⟩
  | .hbm, ⟨62, _⟩ => ⟨S8x8x1x1024, .f32⟩
  | .hbm, ⟨63, _⟩ => ⟨S8x8x1x1024, .f32⟩
  | .hbm, ⟨64, _⟩ => ⟨S8x8x1x1024, .f32⟩
  | .hbm, ⟨65, _⟩ => ⟨S_, .f32⟩
  | .hbm, ⟨66, _⟩ => ⟨S8x8x1, .f32⟩
  | .hbm, ⟨67, _⟩ => ⟨S8x8x1x1, .f32⟩
  | .hbm, ⟨68, _⟩ => ⟨S8x8x1x1024, .f32⟩
  | .hbm, ⟨69, _⟩ => ⟨S8x8x1x1024, .f32⟩
  | .hbm, ⟨70, _⟩ => ⟨S8x8x64x1, .f32⟩
  | .hbm, ⟨71, _⟩ => ⟨S8x1x8x64, .f32⟩
  | _, _ => ⟨S8x1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v27 : Ref sig .tc := ⟨.hbm, 58, rfl⟩
abbrev main_cst_5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_6 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩

abbrev nD : Nat := 1
abbrev τ : Topo := Topo.v7x

variable {F : FTy → Type} [FloatOps F]
-- ==== Proof.Protocol.lean ====
/-
The exchange between the two devices of a pair: the cells, what every cell's round carries, and what every device
owes when the call starts.

Device `c` and its peer `pr c` (the device of the same x and the other y) signal each other's barrier; the signal
hands the peer both landing buffers. Then each copies its own partial sums (accumulators and denominators, heads 0–3
and then heads 4–7) into the peer's landing buffers; a copy borrows half of the source's share, so the kernel may go
on reading the source while the copy is under way.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit
public import Idealize.ShloMosaic.Lib.Tactic

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's rounds and the exchange's, both with one duty per round -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

abbrev 𝒱₀ : Variants := Variants.none

/-! ## The peer -/

set_option backward.proofsInPublic true in
/-- The device of the same x and the other y. -/
def pr (c : Dev nD) : Dev nD := ⟨2 * (c.val / 2) + 1 - c.val % 2, by have := c.isLt; have h : nD = 4 := rfl; omega⟩

theorem pr_pr (c : Dev nD) : pr (pr c) = c := by revert c; decide

theorem dev1_eq (c : Dev nD) : (⟨k0_dev1 c, k0_dev1_lt c⟩ : Dev nD) = pr c := Fin.ext (k0_dev1_eq c)
theorem dev2_eq (c : Dev nD) : (⟨k0_dev2 c, k0_dev2_lt c⟩ : Dev nD) = pr c := Fin.ext (k0_dev2_eq c)
theorem dev3_eq (c : Dev nD) : (⟨k0_dev3 c, k0_dev3_lt c⟩ : Dev nD) = pr c := Fin.ext (k0_dev3_eq c)
theorem dev4_eq (c : Dev nD) : (⟨k0_dev4 c, k0_dev4_lt c⟩ : Dev nD) = pr c := Fin.ext (k0_dev4_eq c)
theorem dev5_eq (c : Dev nD) : (⟨k0_dev5 c, k0_dev5_lt c⟩ : Dev nD) = pr c := Fin.ext (k0_dev5_eq c)

/-- Taking the peer, as a renaming of the devices. -/
def flip : Dev nD ≃ Dev nD := ⟨pr, pr, pr_pr, pr_pr⟩

/-! ## Buffers and their two halves -/

abbrev aS : Memref sig .tc .vmem S8x8x64 .f32 := Memref.whole cc0_scratch0
abbrev aR : Memref sig .tc .vmem S8x8x64 .f32 := Memref.whole cc0_scratch1
abbrev dS : Memref sig .tc .vmem S8x8x1 .f32 := Memref.whole cc0_scratch2
abbrev dR : Memref sig .tc .vmem S8x8x1 .f32 := Memref.whole cc0_scratch3

/-- Heads 0–3 and heads 4–7 of a buffer of accumulators, -/
abbrev rA0 : Rect S8x8x64 := Rect.unit (s := S8x8x64) ![0, 0, 0] S4x8x64.size inb_S8x8x64_S4x8x64_0_0_0
abbrev rA4 : Rect S8x8x64 := Rect.unit (s := S8x8x64) ![4, 0, 0] S4x8x64.size inb_S8x8x64_S4x8x64_4_0_0
/-- and of one of denominators. -/
abbrev rD0 : Rect S8x8x1 := Rect.unit (s := S8x8x1) ![0, 0, 0] S4x8x1.size inb_S8x8x1_S4x8x1_0_0_0
abbrev rD4 : Rect S8x8x1 := Rect.unit (s := S8x8x1) ![4, 0, 0] S4x8x1.size inb_S8x8x1_S4x8x1_4_0_0

abbrev aS0 : Memref sig .tc .vmem S4x8x64 .f32 := aS.slice rA0 (fun _ => rfl)
abbrev aS4 : Memref sig .tc .vmem S4x8x64 .f32 := aS.slice rA4 (fun _ => rfl)
abbrev aR0 : Memref sig .tc .vmem S4x8x64 .f32 := aR.slice rA0 (fun _ => rfl)
abbrev aR4 : Memref sig .tc .vmem S4x8x64 .f32 := aR.slice rA4 (fun _ => rfl)
abbrev dS0 : Memref sig .tc .vmem S4x8x1 .f32 := dS.slice rD0 (fun _ => rfl)
abbrev dS4 : Memref sig .tc .vmem S4x8x1 .f32 := dS.slice rD4 (fun _ => rfl)
abbrev dR0 : Memref sig .tc .vmem S4x8x1 .f32 := dR.slice rD0 (fun _ => rfl)
abbrev dR4 : Memref sig .tc .vmem S4x8x1 .f32 := dR.slice rD4 (fun _ => rfl)

/-! ## Semaphores and cells -/

/-- The runtime's barrier semaphore. -/
abbrev barS : Sem sig := (SemArray.scalar (sig.barrier 0 rfl) : Sems sig S_).sem
/-- Member 0 and member 1 of a pair of DMA semaphores. -/
abbrev sem0 (a : DmaSems sig S2) : DmaSem sig :=
  ((a.slice (Rect.unit (s := S2) ![0] S1.size inb_S2_S1_0)).squeeze S_ squeezes_S1_S_).sem
abbrev sem1 (a : DmaSems sig S2) : DmaSem sig :=
  ((a.slice (Rect.unit (s := S2) ![1] S1.size inb_S2_S1_1)).squeeze S_ squeezes_S1_S_).sem

/-- The nine semaphores of the exchange: the barrier (0), the four copies' send semaphores (1–4) and their receive
    semaphores (5–8); the copies in program order — accumulators then denominators, heads 0–3 then heads 4–7. -/
abbrev csem : Fin 9 → SemLoc sig := fun
  | 0 => .reg barS
  | 1 => .dma (sem0 cc0_scratch4) | 2 => .dma (sem0 cc0_scratch6) | 3 => .dma (sem1 cc0_scratch4) | 4 => .dma (sem1 cc0_scratch6)
  | 5 => .dma (sem0 cc0_scratch5) | 6 => .dma (sem0 cc0_scratch7) | 7 => .dma (sem1 cc0_scratch5) | 8 => .dma (sem1 cc0_scratch7)

/-- The cell of device `c`'s semaphore `k`. -/
abbrev kcell (ck : Dev nD × Fin 9) : GSem nD τ sig := ((ck.1 : Thread nD τ), csem ck.2)

theorem csem_inj : Function.Injective csem := by decide

/-- Which of the nine a semaphore is, if any. -/
def kind (sm : SemLoc sig) : Option (Fin 9) := if h : ∃ k, csem k = sm then some h.choose else none

theorem kind_csem (k : Fin 9) : kind (csem k) = some k := by
  have h : ∃ k', csem k' = csem k := ⟨k, rfl⟩
  unfold kind
  rw [dif_pos h]
  exact congrArg some (csem_inj h.choose_spec)

/-- The units one round of the cell takes: one signal, or a copy's credit. -/
def amt : Fin 9 → ℕ := fun
  | 0 => 1
  | 1 => aR0.view.dmaCredit | 2 => dR0.view.dmaCredit | 3 => aR4.view.dmaCredit | 4 => dR4.view.dmaCredit
  | 5 => aR0.view.dmaCredit | 6 => dR0.view.dmaCredit | 7 => aR4.view.dmaCredit | 8 => dR4.view.dmaCredit

theorem amt_pos (k : Fin 9) : 0 < amt k := by
  fin_cases k
  · exact Nat.one_pos
  all_goals exact View.dmaCredit_pos _ (by decide)

/-! ## What the buffers hold -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s five staged operands. -/
def stQ (c : Dev nD) : (cc0_stg0_0 : Ref sig .tc).ty.Contents (Elt F) := (win0_0.blk (0 : Fin 1)).view.read (Elt F) (m ((c : Thread nD τ).loc main_arg0))
def stK (c : Dev nD) : (cc0_stg1_0 : Ref sig .tc).ty.Contents (Elt F) := (win0_1.blk (0 : Fin 1)).view.read (Elt F) (m ((c : Thread nD τ).loc main_arg1))
def stV (c : Dev nD) : (cc0_stg2_0 : Ref sig .tc).ty.Contents (Elt F) := (win0_2.blk (0 : Fin 1)).view.read (Elt F) (m ((c : Thread nD τ).loc main_arg2))
def stB (c : Dev nD) : (cc0_stg3_0 : Ref sig .tc).ty.Contents (Elt F) := (win0_3.blk (0 : Fin 1)).view.read (Elt F) (m ((c : Thread nD τ).loc main_arg3))
def stL (c : Dev nD) : (cc0_stg4_0 : Ref sig .tc).ty.Contents (Elt F) := (win0_4.blk (0 : Fin 1)).view.read (Elt F) (m ((c : Thread nD τ).loc main_arg4))

/-- The iota along the lanes the page counts are compared with. -/
abbrev pids : IVec S8x64 32 := iota .tc S8x64 32 [1] iota_S8x64_d1_w32

/-- The page number every slot of the table names on device `c`, below zero or past the shard where it names none. -/
def lp (c : Dev nD) : IVec S8x64 32 := k0_pay1 (F := F) c (stB m c) (stL m c)

/-- The counts after the slots of each of the kernel's program parts, -/
def cnt1 (c : Dev nD) : FVec F S8x64 .f32 := k0_pay4 (lp m c) pids (k0_pay2 c (stB m c) (stL m c)) (k0_pay3 (F := F) c (stB m c) (stL m c))
def cnt2 (c : Dev nD) : FVec F S8x64 .f32 := k0_pay6 (lp m c) pids (cnt1 m c) (k0_pay5 (lp m c) pids)
def cnt3 (c : Dev nD) : FVec F S8x64 .f32 := k0_pay8 (lp m c) pids (cnt2 m c) (k0_pay7 (lp m c) pids)
def cnt4 (c : Dev nD) : FVec F S8x64 .f32 := k0_pay10 (lp m c) pids (cnt3 m c) (k0_pay9 (lp m c) pids)
def cnt5 (c : Dev nD) : FVec F S8x64 .f32 := k0_pay12 (lp m c) pids (cnt4 m c) (k0_pay11 (lp m c) pids)
def cnt6 (c : Dev nD) : FVec F S8x64 .f32 := k0_pay14 (lp m c) pids (cnt5 m c) (k0_pay13 (lp m c) pids)
/-- and the weight of every key: how many slots of the row name its page. -/
def wgt (c : Dev nD) : FVec F S8x1024 .f32 := k0_pay16 (lp m c) pids (cnt6 m c) (k0_pay15 (lp m c) pids)

/-- The mask of the block diagonal; the weights, once for each of four heads; the queries of heads 0–3. -/
def bdm : IVec S32x256 1 :=
  k0_pay20 (iota .tc S32x256 32 [0] iota_S32x256_d0_w32) (iota .tc S32x256 32 [1] iota_S32x256_d1_w32) 8#32 k0_pay18 k0_pay19
def wt4 (c : Dev nD) : FVec F S32x1024 .f32 := k0_pay21 (wgt m c)
def qAll (c : Dev nD) : FVec F S8x1x8x64 .f32 := k0_pay17 (stQ m c)
def q0 (c : Dev nD) : FVec F S8x4x64 .f32 := k0_pay22 (qAll m c)

abbrev rK0 : Rect S64x16x8x64 := Rect.unit (s := S64x16x8x64) ![0, 0, 0, 0] S64x16x4x64.size inb_S64x16x8x64_S64x16x4x64_0_0_0_0
abbrev rK4 : Rect S64x16x8x64 := Rect.unit (s := S64x16x8x64) ![0, 0, 4, 0] S64x16x4x64.size inb_S64x16x8x64_S64x16x4x64_0_0_4_0
abbrev kM : Memref sig .tc .vmem S64x16x8x64 .f32 := Memref.whole cc0_stg1_0
abbrev vM : Memref sig .tc .vmem S64x16x8x64 .f32 := Memref.whole cc0_stg2_0

/-- The keys and values of heads 0–3 and of heads 4–7. -/
def key0 (c : Dev nD) : Vec F S64x16x4x64 .f32 := kM.view.readAt (Elt F) rK0.toLoadRect (stK m c)
def key4 (c : Dev nD) : Vec F S64x16x4x64 .f32 := kM.view.readAt (Elt F) rK4.toLoadRect (stK m c)
def val0 (c : Dev nD) : Vec F S64x16x4x64 .f32 := vM.view.readAt (Elt F) rK0.toLoadRect (stV m c)
def val4 (c : Dev nD) : Vec F S64x16x4x64 .f32 := vM.view.readAt (Elt F) rK4.toLoadRect (stV m c)

/-- A pair of waves' denominators (`l`) and products (`r`): heads 0–3, -/
def l0 (c : Dev nD) : FVec F S32x1 .f32 := k0_pay24 bdm (wt4 m c) (q0 m c) (key0 m c)
def p0 (c : Dev nD) : FVec F S32x256 .f32 := k0_pay25 bdm (wt4 m c) (q0 m c) (key0 m c) (val0 m c)
/-- heads 4–7. -/
def l4 (c : Dev nD) : FVec F S32x1 .f32 := k0_pay36 (qAll m c) bdm (wt4 m c) (key4 m c)
def p4 (c : Dev nD) : FVec F S32x256 .f32 := k0_pay37 (qAll m c) bdm (wt4 m c) (key4 m c) (val4 m c)

/-- What the kernel stores of each head's accumulator, -/
def accH (c : Dev nD) : Fin 8 → FVec F S1x8x64 .f32 := fun
  | 0 => k0_pay26 bdm (wt4 m c) (q0 m c) (key0 m c) (val0 m c)
  | 1 => k0_pay28 bdm (wt4 m c) (q0 m c) (key0 m c) (val0 m c)
  | 2 => k0_pay31 (p0 m c)
  | 3 => k0_pay33 (p0 m c)
  | 4 => k0_pay39 (k0_pay38 (qAll m c) bdm (wt4 m c) (key4 m c) (val4 m c))
  | 5 => k0_pay41 (p4 m c)
  | 6 => k0_pay43 (p4 m c)
  | 7 => k0_pay45 (p4 m c)
/-- and of each head's denominator. -/
def denH (c : Dev nD) : Fin 8 → FVec F S1x8x1 .f32 := fun
  | 0 => k0_pay27 bdm (wt4 m c) (q0 m c) (key0 m c)
  | 1 => k0_pay30 (k0_pay29 bdm (wt4 m c) (q0 m c) (key0 m c))
  | 2 => k0_pay32 (l0 m c)
  | 3 => k0_pay34 (l0 m c)
  | 4 => k0_pay40 (l4 m c)
  | 5 => k0_pay42 (l4 m c)
  | 6 => k0_pay44 (l4 m c)
  | 7 => k0_pay46 (l4 m c)

/-- The accumulators and the denominators device `c` leaves in its scratch. -/
def accC (c : Dev nD) : S8x8x64.Idx → F .f32 := fun i => accH m c (i 0) (ix3 (0 : Fin 1) (i 1 : Fin 8) (i 2 : Fin 64))
def denC (c : Dev nD) : S8x8x1.Idx → F .f32 := fun i => denH m c (i 0) (ix3 (0 : Fin 1) (i 1 : Fin 8) (i 2 : Fin 1))

/-- What the combining steps load: their own halves and the landed ones. -/
def ra0 (c : Dev nD) : Vec F S4x8x64 .f32 := aS.view.readAt (Elt F) rA0.toLoadRect (accC m c)
def ra4 (c : Dev nD) : Vec F S4x8x64 .f32 := aS.view.readAt (Elt F) rA4.toLoadRect (accC m c)
def rd0 (c : Dev nD) : Vec F S4x8x1 .f32 := dS.view.readAt (Elt F) rD0.toLoadRect (denC m c)
def rd4 (c : Dev nD) : Vec F S4x8x1 .f32 := dS.view.readAt (Elt F) rD4.toLoadRect (denC m c)

/-- What the kernel stores of each head's result, -/
def outH (c : Dev nD) : Fin 8 → FVec F S8x1x1x64 .f32 := fun
  | 0 => k0_pay48 (ra0 m c) (ra0 m (pr c)) (rd0 m c) (rd0 m (pr c))
  | 1 => k0_pay50 (k0_pay49 (ra0 m c) (ra0 m (pr c)) (rd0 m c) (rd0 m (pr c)))
  | 2 => k0_pay51 (k0_pay47 (ra0 m c) (ra0 m (pr c)) (rd0 m c) (rd0 m (pr c)))
  | 3 => k0_pay52 (k0_pay47 (ra0 m c) (ra0 m (pr c)) (rd0 m c) (rd0 m (pr c)))
  | 4 => k0_pay54 (ra4 m c) (ra4 m (pr c)) (rd4 m c) (rd4 m (pr c))
  | 5 => k0_pay55 (ra4 m c) (ra4 m (pr c)) (rd4 m c) (rd4 m (pr c))
  | 6 => k0_pay56 (ra4 m c) (ra4 m (pr c)) (rd4 m c) (rd4 m (pr c))
  | 7 => k0_pay58 (k0_pay57 (ra4 m c) (ra4 m (pr c)) (rd4 m c) (rd4 m (pr c)))
/-- and the result it leaves. -/
def outC (c : Dev nD) : S8x1x8x64.Idx → F .f32 := fun i => outH m c (i 2) (ix4 (i 0 : Fin 8) (0 : Fin 1) (0 : Fin 1) (i 3 : Fin 64))

/-! ## What each round hands over -/

/-- A half of a buffer on device `c` at share `q`, holding `f` there. -/
def ptA (c : Dev nD) (v : Memref sig .tc .vmem S4x8x64 .f32) (q : PosShare TreeShare) (f : Buf (Elt F) (v.view.loc (c : Thread nD τ))) : sProp 𝕄 :=
  v.view.loc (c : Thread nD τ) ↦[v.view.set]{q} f
def ptD (c : Dev nD) (v : Memref sig .tc .vmem S4x8x1 .f32) (q : PosShare TreeShare) (f : Buf (Elt F) (v.view.loc (c : Thread nD τ))) : sProp 𝕄 :=
  v.view.loc (c : Thread nD τ) ↦[v.view.set]{q} f

omit [FloatOps F] in
instance ptA_storable (c : Dev nD) (v q f) : BI.Storable (upEmb : UEmb _ 𝕄) (ptA (F := F) c v q f) := by unfold ptA; infer_instance
omit [FloatOps F] in
instance ptD_storable (c : Dev nD) (v q f) : BI.Storable (upEmb : UEmb _ 𝕄) (ptD (F := F) c v q f) := by unfold ptD; infer_instance

/-- The two halves of the share of a source: one lent to the copy, one kept. -/
abbrev lent : PosShare TreeShare := fullShare.left
abbrev kept : PosShare TreeShare := fullShare.right

/-- The landing buffers of device `c`, at any contents. -/
def landing (c : Dev nD) : sProp 𝕄 :=
  iprop((∃ f, ptA (F := F) c aR0 fullShare f) ∗ (∃ f, ptD (F := F) c dR0 fullShare f) ∗ (∃ f, ptA (F := F) c aR4 fullShare f) ∗ (∃ f, ptD (F := F) c dR4 fullShare f))

/-- What the round of cell `k` of device `c` hands to `c`: the barrier, the peer's landing buffers; a send cell, the
    lent share of the copy's source; a receive cell, the landing half holding what the peer copied. -/
def pay : Fin 9 → Dev nD → sProp 𝕄 := fun
  | 0 => fun c => landing (F := F) (pr c)
  | 1 => fun c => ptA c aS0 lent (accC m c)
  | 2 => fun c => ptD c dS0 lent (denC m c)
  | 3 => fun c => ptA c aS4 lent (accC m c)
  | 4 => fun c => ptD c dS4 lent (denC m c)
  | 5 => fun c => ptA c aR0 fullShare (accC m (pr c))
  | 6 => fun c => ptD c dR0 fullShare (denC m (pr c))
  | 7 => fun c => ptA c aR4 fullShare (accC m (pr c))
  | 8 => fun c => ptD c dR4 fullShare (denC m (pr c))

instance pay_storable (k : Fin 9) (c : Dev nD) : BI.Storable (upEmb : UEmb _ 𝕄) (pay (F := F) m k c) := by
  fin_cases k <;> dsimp only [pay] <;> (try unfold landing) <;> infer_instance

/-- One round, round 0, of every one of the nine cells, with one duty. -/
def sched : Rounds.Schedule (GSem nD τ sig) Unit 𝕄 where
  duties g r := if r = 0 ∧ g.1.2 = .tc ∧ (kind g.2).isSome then {()} else ∅
  unitless _ := False
  amount g _ _ := match kind g.2 with | some k => amt k | none => 1
  payload g _ _ := match kind g.2 with | some k => pay m k g.1.1 | none => iprop(emp)
  amount_pos g _ _ _ := by
    cases kind g.2 with
    | none => exact Nat.one_pos
    | some k => exact amt_pos k

instance sched_storable (g : GSem nD τ sig) (r : ℕ) (d : Unit) :
    BI.Storable (upEmb : UEmb _ 𝕄) ((sched (F := F) m).payload g r d) := by
  show BI.Storable upEmb (match kind g.2 with | some k => pay m k g.1.1 | none => iprop(emp))
  cases kind g.2 <;> infer_instance

section Sched
variable (c : Dev nD) (k : Fin 9)

theorem duties_eq : (sched (F := F) m).duties (kcell (c, k)) 0 = {()} := by
  dsimp only [sched]; exact if_pos ⟨rfl, rfl, by rw [kind_csem]; rfl⟩
theorem duties_later (g : GSem nD τ sig) : ∀ r, 1 ≤ r → (sched (F := F) m).duties g r = ∅ :=
  fun r hr => by dsimp only [sched]; rw [if_neg fun h => by omega]
theorem amount_eq (d : Unit) : (sched (F := F) m).amount (kcell (c, k)) 0 d = amt k := by
  dsimp only [sched]; rw [kind_csem]
theorem payload_eq (d : Unit) : (sched (F := F) m).payload (kcell (c, k)) 0 d = pay m k c := by
  dsimp only [sched]; rw [kind_csem]
theorem expect_eq : (sched (F := F) m).expect (kcell (c, k)) 0 = amt k := by
  unfold Schedule.expect Schedule.amountOf; rw [duties_eq, Finset.sum_singleton, amount_eq]
/-- The whole of a cell's round: its one payload. -/
theorem rest_eq : bigSep ((sched (F := F) m).duties (kcell (c, k)) 0 \ ∅) (fun d => (sched (F := F) m).payload (kcell (c, k)) 0 d) = pay m k c := by
  rw [Finset.sdiff_empty, duties_eq, bigSep_singleton, payload_eq]

end Sched

/-! ## What each device owes at launch, and the levels -/

/-- The credit device `c` owes its peer's cell `k`. -/
abbrev ow (c : Dev nD) (k : Fin 9) : CellTallies nD τ sig Unit := tallyAt (kcell (pr c, k)) () (amt k)

/-- What is left to pay after the signal and the first copies: the copies are paid in program order. -/
def O8 (c : Dev nD) : CellTallies nD τ sig Unit := 0 + ow c 8
def O7 (c : Dev nD) : CellTallies nD τ sig Unit := O8 c + ow c 7
def O6 (c : Dev nD) : CellTallies nD τ sig Unit := O7 c + ow c 6
def O5 (c : Dev nD) : CellTallies nD τ sig Unit := O6 c + ow c 5
def O₀ (c : Dev nD) : CellTallies nD τ sig Unit := O5 c + ow c 0

def L (g : GSem nD τ sig) : Finset Unit := if g.1.2 = .tc then {()} else ∅
/-- Barrier cells at level 1, receive cells at level 2, all others at 0. -/
def lv (g : GSem nD τ sig) (_ : Unit) : ℕ := match kind g.2 with
  | some k => if k = 0 then 1 else if 5 ≤ k then 2 else 0
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Fin 9) (u : Unit) : lv (kcell (c, k)) u = if k = 0 then 1 else if 5 ≤ k then 2 else 0 := by
  unfold lv; rw [kind_csem]

theorem ow_pos {c : Dev nD} {k : Fin 9} {g : GSem nD τ sig} {u : Unit} (h : 0 < ow c k g u) : g = kcell (pr c, k) := by
  rw [tallyAt_apply] at h
  by_contra hn
  rw [if_neg fun h' => hn h'.1] at h
  exact Nat.lt_irrefl 0 h

theorem O5_pos {c : Dev nD} {g : GSem nD τ sig} {u : Unit} (h : 0 < O5 c g u) : ∃ k : Fin 9, 5 ≤ k ∧ g = kcell (pr c, k) := by
  unfold O5 O6 O7 O8 at h
  simp only [Pi.add_apply, Finsupp.add_apply, Pi.zero_apply, Finsupp.coe_zero, zero_add] at h
  by_contra hn
  rw [not_exists] at hn
  have hz : ∀ k : Fin 9, 5 ≤ k → ow c k g u = 0 := fun k hk => by
    by_contra h0
    exact hn k ⟨hk, ow_pos (Nat.pos_of_ne_zero h0)⟩
  rw [hz 8 (by decide), hz 7 (by decide), hz 6 (by decide), hz 5 (by decide)] at h
  exact Nat.lt_irrefl 0 h

theorem O₀_pos {c : Dev nD} {g : GSem nD τ sig} {u : Unit} (h : 0 < O₀ c g u) : ∃ k : Fin 9, (k = 0 ∨ 5 ≤ k) ∧ g = kcell (pr c, k) := by
  unfold O₀ at h
  rw [Pi.add_apply, Finsupp.add_apply] at h
  rcases Nat.eq_zero_or_pos (O5 c g u) with h5 | h5
  · rw [h5, Nat.zero_add] at h
    exact ⟨0, .inl rfl, ow_pos h⟩
  · obtain ⟨k, hk, e⟩ := O5_pos h5
    exact ⟨k, .inr hk, e⟩

omit [FloatOps F] in
/-- The pipeline's own waits, on semaphores outside the exchange, are allowed whatever a device owes. -/
theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨k, -, rfl⟩ := O₀_pos hg; exact Finset.mem_singleton_self _)
      (fun p hp => by rw [Finset.mem_singleton.mp hp]; unfold lv; rw [hq])
      (fun g u hg => by
        obtain ⟨k, hk, rfl⟩ := O₀_pos hg
        rw [lv_kcell]
        rcases hk with rfl | hk
        · exact Nat.one_pos
        · rw [if_neg (fun h => by subst h; revert hk; decide), if_pos hk]; decide)
  · rw [MayWait_zero]; iintro -; iempintro

omit [FloatOps F] in
/-- A device waits on its barrier owing only its peer's receive cells, which lie above. -/
theorem mayWait_bar (c : Dev nD) : (levAts L lv : sProp 𝕄) ⊢ MayWait (c : Thread nD τ) (csem 0) () (O5 c) :=
  MayOwe.of_cut (L := L) (lev := lv) 1 (fun p hp => by rw [Finset.mem_singleton.mp hp, L_tc]; exact Finset.mem_singleton_self _)
    (fun g u hg => by obtain ⟨k, -, rfl⟩ := O5_pos hg; exact Finset.mem_singleton_self _)
    (fun p hp => by rw [Finset.mem_singleton.mp hp]; exact le_of_eq (lv_kcell c 0 ()))
    (fun g u hg => by
      obtain ⟨k, hk, rfl⟩ := O5_pos hg
      rw [lv_kcell, if_neg (fun h => by subst h; revert hk; decide), if_pos hk]; decide)

end Cert.Paged

end
-- ==== Proof.Buffers.lean ====
/-
The kernel's buffers in halves and heads: which elements each rectangle holds, what a store of one head leaves, what a
copy leaves where it lands, and the laws that cut a buffer in two halves and join the halves again.
-/
module

public import proofs.«01_k».proof.Proof.Protocol

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Which elements a rectangle holds -/

theorem mem_rowsA {o n : ℕ} {inb} (i : S8x8x64.Idx) :
    i ∈ (Rect.unit (s := S8x8x64) ![o, 0, 0] ![n, 8, 64] inb).set ↔ o ≤ (i 0 : Fin 8).val ∧ (i 0 : Fin 8).val < o + n := by
  have h1 : (i 1 : Fin 8).val < 8 := (i 1 : Fin 8).isLt
  have h2 : (i 2 : Fin 64).val < 64 := (i 2 : Fin 64).isLt
  rw [Rect.mem_set_unit]
  constructor
  · intro h; exact h (0 : Fin 3)
  · intro h a
    fin_cases a
    · exact h
    · exact ⟨Nat.zero_le _, by simpa using h1⟩
    · exact ⟨Nat.zero_le _, by simpa using h2⟩

theorem mem_rowsD {o n : ℕ} {inb} (i : S8x8x1.Idx) :
    i ∈ (Rect.unit (s := S8x8x1) ![o, 0, 0] ![n, 8, 1] inb).set ↔ o ≤ (i 0 : Fin 8).val ∧ (i 0 : Fin 8).val < o + n := by
  have h1 : (i 1 : Fin 8).val < 8 := (i 1 : Fin 8).isLt
  have h2 : (i 2 : Fin 1).val < 1 := (i 2 : Fin 1).isLt
  rw [Rect.mem_set_unit]
  constructor
  · intro h; exact h (0 : Fin 3)
  · intro h a
    fin_cases a
    · exact h
    · exact ⟨Nat.zero_le _, by simpa using h1⟩
    · exact ⟨Nat.zero_le _, by simpa using h2⟩

theorem mem_rowsO {o : ℕ} {inb} (i : S8x1x8x64.Idx) (h : i ∈ (Rect.unit (s := S8x1x8x64) ![0, 0, o, 0] ![8, 1, 1, 64] inb).set) :
    o ≤ (i 2 : Fin 8).val ∧ (i 2 : Fin 8).val < o + 1 := by
  rw [Rect.mem_set_unit] at h
  exact h (2 : Fin 4)

/-- The elements of heads 0–3 and of heads 4–7. -/
def loA : Finset S8x8x64.Idx := rA0.set
def hiA : Finset S8x8x64.Idx := rA4.set
def loD : Finset S8x8x1.Idx := rD0.set
def hiD : Finset S8x8x1.Idx := rD4.set

theorem mem_loA (i : S8x8x64.Idx) : i ∈ loA ↔ (i 0 : Fin 8).val < 4 := (mem_rowsA i).trans ⟨fun h => by omega, fun h => by omega⟩
theorem mem_hiA (i : S8x8x64.Idx) : i ∈ hiA ↔ 4 ≤ (i 0 : Fin 8).val :=
  (mem_rowsA i).trans ⟨fun h => h.1, fun h => ⟨h, (i 0 : Fin 8).isLt⟩⟩
theorem mem_loD (i : S8x8x1.Idx) : i ∈ loD ↔ (i 0 : Fin 8).val < 4 := (mem_rowsD i).trans ⟨fun h => by omega, fun h => by omega⟩
theorem mem_hiD (i : S8x8x1.Idx) : i ∈ hiD ↔ 4 ≤ (i 0 : Fin 8).val :=
  (mem_rowsD i).trans ⟨fun h => h.1, fun h => ⟨h, (i 0 : Fin 8).isLt⟩⟩

theorem hiA_eq : hiA = Finset.univ \ loA := by
  ext i; rw [Finset.mem_sdiff, mem_hiA, mem_loA]; exact ⟨fun h => ⟨Finset.mem_univ _, by omega⟩, fun h => by omega⟩
theorem hiD_eq : hiD = Finset.univ \ loD := by
  ext i; rw [Finset.mem_sdiff, mem_hiD, mem_loD]; exact ⟨fun h => ⟨Finset.mem_univ _, by omega⟩, fun h => by omega⟩

theorem set_aS0 : aS0.view.set = loA := View.set_slice_whole _ _
theorem set_aS4 : aS4.view.set = hiA := View.set_slice_whole _ _
theorem set_aR0 : aR0.view.set = loA := View.set_slice_whole _ _
theorem set_aR4 : aR4.view.set = hiA := View.set_slice_whole _ _
theorem set_dS0 : dS0.view.set = loD := View.set_slice_whole _ _
theorem set_dS4 : dS4.view.set = hiD := View.set_slice_whole _ _
theorem set_dR0 : dR0.view.set = loD := View.set_slice_whole _ _
theorem set_dR4 : dR4.view.set = hiD := View.set_slice_whole _ _

/-! ## What a store of one head leaves -/

/-- A buffer of accumulators with head `h` replaced, -/
def putA (h : ℕ) (w : S1x8x64.Idx → F .f32) (f : S8x8x64.Idx → F .f32) : S8x8x64.Idx → F .f32 := fun i =>
  if (i 0 : Fin 8).val = h then w (ix3 (0 : Fin 1) (i 1 : Fin 8) (i 2 : Fin 64)) else f i
/-- one of denominators, -/
def putD (h : ℕ) (w : S1x8x1.Idx → F .f32) (f : S8x8x1.Idx → F .f32) : S8x8x1.Idx → F .f32 := fun i =>
  if (i 0 : Fin 8).val = h then w (ix3 (0 : Fin 1) (i 1 : Fin 8) (i 2 : Fin 1)) else f i
/-- and the result. -/
def putO (h : ℕ) (w : S8x1x1x64.Idx → F .f32) (f : S8x1x8x64.Idx → F .f32) : S8x1x8x64.Idx → F .f32 := fun i =>
  if (i 2 : Fin 8).val = h then w (ix4 (i 0 : Fin 8) (0 : Fin 1) (0 : Fin 1) (i 3 : Fin 64)) else f i

abbrev rowA (h : ℕ) (inb : ∀ a : Fin 3, (![h, 0, 0] : Fin 3 → ℕ) a + S1x8x64.size a ≤ S8x8x64.size a) : Rect S8x8x64 := Rect.unit (s := S8x8x64) ![h, 0, 0] S1x8x64.size inb
abbrev rowD (h : ℕ) (inb : ∀ a : Fin 3, (![h, 0, 0] : Fin 3 → ℕ) a + S1x8x1.size a ≤ S8x8x1.size a) : Rect S8x8x1 := Rect.unit (s := S8x8x1) ![h, 0, 0] S1x8x1.size inb
abbrev rowO (h : ℕ) (inb : ∀ a : Fin 4, (![0, 0, h, 0] : Fin 4 → ℕ) a + S8x1x1x64.size a ≤ S8x1x8x64.size a) : Rect S8x1x8x64 := Rect.unit (s := S8x1x8x64) ![0, 0, h, 0] S8x1x1x64.size inb
abbrev oM : Memref sig .tc .vmem S8x1x8x64 .f32 := Memref.whole cc0_stg5_0

theorem setOn_rowA (h : ℕ) (inb : ∀ a : Fin 3, (![h, 0, 0] : Fin 3 → ℕ) a + S1x8x64.size a ≤ S8x8x64.size a) : (aS.access (rowA h inb)).setOn Finset.univ = (rowA h inb).set := View.set_slice_whole _ _
theorem setOn_rowD (h : ℕ) (inb : ∀ a : Fin 3, (![h, 0, 0] : Fin 3 → ℕ) a + S1x8x1.size a ≤ S8x8x1.size a) : (dS.access (rowD h inb)).setOn Finset.univ = (rowD h inb).set := View.set_slice_whole _ _

omit [FloatOps F] in
theorem write_rowA (h : ℕ) (inb : ∀ a : Fin 3, (![h, 0, 0] : Fin 3 → ℕ) a + S1x8x64.size a ≤ S8x8x64.size a) (f : S8x8x64.Idx → F .f32) (w : S1x8x64.Idx → F .f32) :
    (aS.access (rowA h inb) : View sig .tc _ _ _).write (Elt F) f w Finset.univ = putA h w f := by
  refine funext fun (i : S8x8x64.Idx) => ?_
  unfold putA
  split
  · rename_i e
    have hi : i = ((View.whole cc0_scratch0).slice (rowA h inb)).emb (ix3 (0 : Fin 1) (i 1 : Fin 8) (i 2 : Fin 64)) := by
      funext a
      refine Fin.ext ?_
      rw [ValueKit.view_emb_slice_whole_unit_val]
      fin_cases a
      · exact e
      · exact (Nat.zero_add _).symm
      · exact (Nat.zero_add _).symm
    conv_lhs => rw [hi]
    exact View.write_emb_of_mem (v := (View.whole cc0_scratch0).slice (rowA h inb)) (Val := Elt F) f w (Finset.mem_univ _)
  · rename_i e
    refine View.write_of_not_mem (v := (View.whole cc0_scratch0).slice (rowA h inb)) (Val := Elt F) f w Finset.univ fun hm => e ?_
    have := (mem_rowsA (o := h) (n := 1) (inb := inb) i).mp (by rw [← View.set_slice_whole cc0_scratch0]; exact hm)
    omega

omit [FloatOps F] in
theorem write_rowD (h : ℕ) (inb : ∀ a : Fin 3, (![h, 0, 0] : Fin 3 → ℕ) a + S1x8x1.size a ≤ S8x8x1.size a) (f : S8x8x1.Idx → F .f32) (w : S1x8x1.Idx → F .f32) :
    (dS.access (rowD h inb) : View sig .tc _ _ _).write (Elt F) f w Finset.univ = putD h w f := by
  refine funext fun (i : S8x8x1.Idx) => ?_
  unfold putD
  split
  · rename_i e
    have hi : i = ((View.whole cc0_scratch2).slice (rowD h inb)).emb (ix3 (0 : Fin 1) (i 1 : Fin 8) (i 2 : Fin 1)) := by
      funext a
      refine Fin.ext ?_
      rw [ValueKit.view_emb_slice_whole_unit_val]
      fin_cases a
      · exact e
      · exact (Nat.zero_add _).symm
      · exact (Nat.zero_add _).symm
    conv_lhs => rw [hi]
    exact View.write_emb_of_mem (v := (View.whole cc0_scratch2).slice (rowD h inb)) (Val := Elt F) f w (Finset.mem_univ _)
  · rename_i e
    refine View.write_of_not_mem (v := (View.whole cc0_scratch2).slice (rowD h inb)) (Val := Elt F) f w Finset.univ fun hm => e ?_
    have := (mem_rowsD (o := h) (n := 1) (inb := inb) i).mp (by rw [← View.set_slice_whole cc0_scratch2]; exact hm)
    omega

omit [FloatOps F] in
theorem write_rowO (h : ℕ) (inb : ∀ a : Fin 4, (![0, 0, h, 0] : Fin 4 → ℕ) a + S8x1x1x64.size a ≤ S8x1x8x64.size a) (f : S8x1x8x64.Idx → F .f32) (w : S8x1x1x64.Idx → F .f32) :
    (oM.access (rowO h inb) : View sig .tc _ _ _).write (Elt F) f w Finset.univ = putO h w f := by
  refine funext fun (i : S8x1x8x64.Idx) => ?_
  have h1 : (i 1 : Fin 1).val = 0 := Nat.lt_one_iff.mp (show (i 1 : Fin 1).val < 1 from (i 1 : Fin 1).isLt)
  unfold putO
  split
  · rename_i e
    have hi : i = ((View.whole cc0_stg5_0).slice (rowO h inb)).emb (ix4 (i 0 : Fin 8) (0 : Fin 1) (0 : Fin 1) (i 3 : Fin 64)) := by
      funext a
      refine Fin.ext ?_
      rw [ValueKit.view_emb_slice_whole_unit_val]
      fin_cases a
      · exact (Nat.zero_add _).symm
      · exact h1
      · exact e
      · exact (Nat.zero_add _).symm
    conv_lhs => rw [hi]
    exact View.write_emb_of_mem (v := (View.whole cc0_stg5_0).slice (rowO h inb)) (Val := Elt F) f w (Finset.mem_univ _)
  · rename_i e
    refine View.write_of_not_mem (v := (View.whole cc0_stg5_0).slice (rowO h inb)) (Val := Elt F) f w Finset.univ fun hm => e ?_
    have := mem_rowsO (o := h) (inb := inb) i ((View.set_slice_whole cc0_stg5_0 (rowO h inb)) ▸ hm)
    omega

/-! ## What a copy leaves where it lands -/

omit [FloatOps F] in
theorem land_aR0 (fd fs : S8x8x64.Idx → F .f32) (i : S8x8x64.Idx) (hi : i ∈ aR0.view.set) :
    aR0.view.write (Elt F) fd (aS0.view.read (Elt F) fs) Finset.univ i = fs i := by
  obtain ⟨x, -, rfl⟩ := Finset.mem_map.mp hi
  exact View.write_emb_of_mem (v := aR0.view) (Val := Elt F) fd _ (Finset.mem_univ x)
omit [FloatOps F] in
theorem land_aR4 (fd fs : S8x8x64.Idx → F .f32) (i : S8x8x64.Idx) (hi : i ∈ aR4.view.set) :
    aR4.view.write (Elt F) fd (aS4.view.read (Elt F) fs) Finset.univ i = fs i := by
  obtain ⟨x, -, rfl⟩ := Finset.mem_map.mp hi
  exact View.write_emb_of_mem (v := aR4.view) (Val := Elt F) fd _ (Finset.mem_univ x)
omit [FloatOps F] in
theorem land_dR0 (fd fs : S8x8x1.Idx → F .f32) (i : S8x8x1.Idx) (hi : i ∈ dR0.view.set) :
    dR0.view.write (Elt F) fd (dS0.view.read (Elt F) fs) Finset.univ i = fs i := by
  obtain ⟨x, -, rfl⟩ := Finset.mem_map.mp hi
  exact View.write_emb_of_mem (v := dR0.view) (Val := Elt F) fd _ (Finset.mem_univ x)
omit [FloatOps F] in
theorem land_dR4 (fd fs : S8x8x1.Idx → F .f32) (i : S8x8x1.Idx) (hi : i ∈ dR4.view.set) :
    dR4.view.write (Elt F) fd (dS4.view.read (Elt F) fs) Finset.univ i = fs i := by
  obtain ⟨x, -, rfl⟩ := Finset.mem_map.mp hi
  exact View.write_emb_of_mem (v := dR4.view) (Val := Elt F) fd _ (Finset.mem_univ x)

/-! ## Halves -/

/-- A whole scratch buffer of device `c`, in full. -/
abbrev whA (c : Dev nD) (b : Ref sig .tc) (f : Buf (Elt F) ((c : Thread nD τ).loc b)) : sProp 𝕄 := ((c : Thread nD τ).loc b) ↦{fullShare} f

variable (c : Dev nD)

omit [FloatOps F] in
theorem halves_aS (f : S8x8x64.Idx → F .f32) : whA (F := F) c cc0_scratch0 f ⊣⊢ iprop(ptA (F := F) c aS0 fullShare f ∗ ptA (F := F) c aS4 fullShare f) := by
  unfold ptA; rw [set_aS0, set_aS4, hiA_eq]; exact pointsTo_split_subset (Finset.subset_univ _)
omit [FloatOps F] in
theorem halves_aR (f : S8x8x64.Idx → F .f32) : whA (F := F) c cc0_scratch1 f ⊣⊢ iprop(ptA (F := F) c aR0 fullShare f ∗ ptA (F := F) c aR4 fullShare f) := by
  unfold ptA; rw [set_aR0, set_aR4, hiA_eq]; exact pointsTo_split_subset (Finset.subset_univ _)
omit [FloatOps F] in
theorem halves_dS (f : S8x8x1.Idx → F .f32) : whA (F := F) c cc0_scratch2 f ⊣⊢ iprop(ptD (F := F) c dS0 fullShare f ∗ ptD (F := F) c dS4 fullShare f) := by
  unfold ptD; rw [set_dS0, set_dS4, hiD_eq]; exact pointsTo_split_subset (Finset.subset_univ _)
omit [FloatOps F] in
theorem halves_dR (f : S8x8x1.Idx → F .f32) : whA (F := F) c cc0_scratch3 f ⊣⊢ iprop(ptD (F := F) c dR0 fullShare f ∗ ptD (F := F) c dR4 fullShare f) := by
  unfold ptD; rw [set_dR0, set_dR4, hiD_eq]; exact pointsTo_split_subset (Finset.subset_univ _)

omit [FloatOps F] in
/-- A source half in full is its two half shares. -/
theorem shareA (v : Memref sig .tc .vmem S4x8x64 .f32) (f) : ptA (F := F) c v fullShare f ⊣⊢ iprop(ptA (F := F) c v lent f ∗ ptA (F := F) c v kept f) := by
  unfold ptA; exact pointsTo_share (PosShare.mem_left_op_right fullShare)
omit [FloatOps F] in
theorem shareD (v : Memref sig .tc .vmem S4x8x1 .f32) (f) : ptD (F := F) c v fullShare f ⊣⊢ iprop(ptD (F := F) c v lent f ∗ ptD (F := F) c v kept f) := by
  unfold ptD; exact pointsTo_share (PosShare.mem_left_op_right fullShare)

/-! ## The four heads of a half, stored one after the other -/

variable (m : (ℓ : Loc nD τ sig) → Buf (Elt F) ℓ)

theorem accs_lo (f : S8x8x64.Idx → F .f32) :
    ptA (F := F) c aS0 fullShare (putA 3 (accH m c 3) (putA 2 (accH m c 2) (putA 1 (accH m c 1) (putA 0 (accH m c 0) f)))) = ptA c aS0 fullShare (accC m c) := by
  unfold ptA
  refine pointsTo_congr fun i hi => ?_
  rw [set_aS0, mem_loA] at hi
  unfold accC putA
  generalize (i 0 : Fin 8) = h at *
  fin_cases h <;> first | rfl | (exfalso; simp at hi)
theorem accs_hi (f : S8x8x64.Idx → F .f32) :
    ptA (F := F) c aS4 fullShare (putA 7 (accH m c 7) (putA 6 (accH m c 6) (putA 5 (accH m c 5) (putA 4 (accH m c 4) f)))) = ptA c aS4 fullShare (accC m c) := by
  unfold ptA
  refine pointsTo_congr fun i hi => ?_
  rw [set_aS4, mem_hiA] at hi
  unfold accC putA
  generalize (i 0 : Fin 8) = h at *
  fin_cases h <;> first | rfl | (exfalso; simp at hi)
theorem dens_lo (f : S8x8x1.Idx → F .f32) :
    ptD (F := F) c dS0 fullShare (putD 3 (denH m c 3) (putD 2 (denH m c 2) (putD 1 (denH m c 1) (putD 0 (denH m c 0) f)))) = ptD c dS0 fullShare (denC m c) := by
  unfold ptD
  refine pointsTo_congr fun i hi => ?_
  rw [set_dS0, mem_loD] at hi
  unfold denC putD
  generalize (i 0 : Fin 8) = h at *
  fin_cases h <;> first | rfl | (exfalso; simp at hi)
theorem dens_hi (f : S8x8x1.Idx → F .f32) :
    ptD (F := F) c dS4 fullShare (putD 7 (denH m c 7) (putD 6 (denH m c 6) (putD 5 (denH m c 5) (putD 4 (denH m c 4) f)))) = ptD c dS4 fullShare (denC m c) := by
  unfold ptD
  refine pointsTo_congr fun i hi => ?_
  rw [set_dS4, mem_hiD] at hi
  unfold denC putD
  generalize (i 0 : Fin 8) = h at *
  fin_cases h <;> first | rfl | (exfalso; simp at hi)

/-- The eight heads of the result, stored one after the other. -/
theorem outs_all (f : S8x1x8x64.Idx → F .f32) :
    putO 7 (outH m c 7) (putO 6 (outH m c 6) (putO 5 (outH m c 5) (putO 4 (outH m c 4)
      (putO 3 (outH m c 3) (putO 2 (outH m c 2) (putO 1 (outH m c 1) (putO 0 (outH m c 0) f))))))) = outC m c := by
  funext i
  unfold outC putO
  generalize (i 2 : Fin 8) = h
  fin_cases h <;> rfl

end Cert.Paged

end
-- ==== Proof.Steps.lean ====
/-
One rule for each kind of step the kernel takes: the signal, a wait, a copy to the peer, a load from a half buffer and
a store of one head into it. Each is stated at the exchange's own cells and buffers.
-/
module

public import proofs.«01_k».proof.Proof.Buffers

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 9 → ℕ)

/-! ## The records every device shares -/

/-- Every cell's invariant, under the names `K`, and that every cell is at its round 0. -/
def recs : sProp 𝕄 :=
  iprop(bigSep Finset.univ (fun ck : Dev nD × Fin 9 => cellInv EX (sched m) (K ck) (kcell ck))
    ∗ bigSep Finset.univ (fun ck : Dev nD × Fin 9 => reached EX (kcell ck) 0))

instance recs_persistent : BI.Persistent (recs m K) := by unfold recs; infer_instance

theorem recs_inv (ck : Dev nD × Fin 9) : recs m K ⊢ cellInv EX (sched m) (K ck) (kcell ck) := by
  unfold recs
  exact (sep_elim_left (PROP := sProp 𝕄)).trans (bigSep_elim (Φ := fun ck : Dev nD × Fin 9 => cellInv EX (sched m) (K ck) (kcell ck)) (Finset.mem_univ ck))

theorem recs_reached (ck : Dev nD × Fin 9) : recs m K ⊢ reached EX (kcell ck) 0 := by
  unfold recs
  exact (sep_elim_right (PROP := sProp 𝕄)).trans (bigSep_elim (Φ := fun ck : Dev nD × Fin 9 => (reached EX (kcell ck) 0 : sProp 𝕄)) (Finset.mem_univ ck))

/-- What device `c` owes, whatever it has waited on so far. -/
def ows (c : Dev nD) (O : CellTallies nD τ sig Unit) : sProp 𝕄 := iprop(∃ W, owes (c : Thread nD τ) O W)

/-- The program's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD) {α : Type} {k : PUnit → Prog (TpuEff nD τ sig (Elt F) Λ₀ .tc) α}

/-! ## Signal and waits -/

/-- The signal to the peer's barrier: with it go the landing buffers. -/
theorem step_signal {Q : α → sProp 𝕄} {n : ℕ} (hn : amt 0 = n) :
    iprop(recs m K ∗ ows c (O₀ c) ∗ dutyTok EX (kcell (pr c, 0)) 0 () ∗ landing (F := F) c)
      ⊢ iprop((ows c (O5 c) -∗ WP c (k ⟨⟩) Q) -∗ WP c (.op (.semSignal (pr c : Thread nD τ) barS n) k) Q) := by
  subst hn
  unfold ows
  iintro ⟨#Hr, ⟨%W, HO⟩, Ht, Hl⟩ Hk
  iapply (Rounds.wp_signal 𝒱₀ EX (sched m) (c : Thread nD τ) none (dst := (pr c : Thread nD τ)) (κ := K (pr c, 0))
      (d := ()) (by rw [duties_eq m (pr c) 0]; exact Finset.mem_singleton_self _) (amount_eq m (pr c) 0 ()) () (O5 c) rfl)
    $$ [HO Ht Hl]
  · isplitr; · iapply (recs_inv m K (pr c, 0)); iexact Hr
    isplitl [HO]; · iexact HO
    isplitl [Ht]; · iexact Ht
    isplitl [Hl]
    · rw [payload_eq m (pr c) 0]
      iapply (Entails.of_eq (show landing (F := F) c = pay m 0 (pr c) from (congrArg landing (pr_pr c)).symm)); iexact Hl
    iapply (recs_reached m K (pr c, 0)); iexact Hr
  iintro HO
  iapply Hk
  iexists W; iexact HO

/-- The wait on the own barrier: the peer's landing buffers come with it. -/
theorem step_bar {Q : α → sProp 𝕄} {n : ℕ} (hn : amt 0 = n) :
    iprop(recs m K ∗ levAts L lv ∗ cred (tallyAt (kcell (c, 0)) () (amt 0)) ∗ ows c (O5 c) ∗ atPos EX (kcell (c, 0)) 0 ∅ 0)
      ⊢ iprop(((ows c (O5 c) ∗ atPos EX (kcell (c, 0)) 1 ∅ 0 ∗ landing (F := F) (pr c)) -∗ WP c (k ⟨⟩) Q)
          -∗ WP c (.op (.semWait barS n) k) Q) := by
  subst hn
  unfold ows
  iintro ⟨#Hr, #Hl, Hc, ⟨%W, HO⟩, Ha⟩ Hk
  iapply (Rounds.wp_wait_rest_token 𝒱₀ EX (sched m) (c : Thread nD τ) none (κ := K (c, 0))
      (wpE_semWait_eq 𝒱₀ (c : Thread nD τ) none Set.univ) (Set.mem_univ _) () (O := O5 c) (W := W) (R := 0) (m := 0) (T := ∅)
      (by rw [Nat.zero_add]; exact (expect_eq m c 0).symm)) $$ [Hc HO Ha]
  · isplitr; · iapply (recs_inv m K (c, 0)); iexact Hr
    isplitl [Hc]; · iexact Hc
    isplitl [HO]; · iexact HO
    isplitr; · iapply (mayWait_bar c); iexact Hl
    iexact Ha
  iintro ⟨HO, Ha, -, Hp⟩
  ihave Hp' := (Entails.of_eq ((rest_eq m c 0).trans (show pay m 0 c = landing (F := F) (pr c) from rfl))) $$ Hp
  iapply Hk
  isplitl [HO]; · iexists _; iexact HO
  isplitl [Ha]; · iexact Ha
  iexact Hp'

/-- A wait on one of the own DMA cells, owing nothing: what the cell's round carries comes with it. -/
theorem step_wait {Q : α → sProp 𝕄} (j : Fin 9) (s : DmaSem sig) (hs : csem j = .dma s) {sh sh' : Shape} {e e' : EltTy} {sp sp' : Space}
    (src : Memref sig .tc sp sh e) (dst : Memref sig .tc sp' sh' e')
    {hsrc hdst} (hN : dst.view.dmaCredit = amt j) :
    iprop(recs m K ∗ cred (tallyAt (kcell (c, j)) () (amt j)) ∗ ows c 0 ∗ atPos EX (kcell (c, j)) 0 ∅ 0)
      ⊢ iprop(((ows c 0 ∗ atPos EX (kcell (c, j)) 1 ∅ 0 ∗ pay m j c) -∗ WP c (k ⟨⟩) Q)
          -∗ WP c (.op (.waitDma2 s src dst hsrc hdst) k) Q) := by
  unfold ows
  iintro ⟨#Hr, Hc, ⟨%W, HO⟩, Ha⟩ Hk
  iapply (Rounds.wp_wait_rest_token 𝒱₀ EX (sched m) (c : Thread nD τ) none (κ := K (c, j))
      (wpE_waitDma2_eq 𝒱₀ (c : Thread nD τ) none Set.univ) (Set.mem_univ _) () (O := 0) (W := W) (R := 0) (m := 0) (T := ∅)
      (by rw [Nat.zero_add, hN, ← hs]; exact (expect_eq m c j).symm)) $$ [Hc HO Ha]
  · rw [← hs, hN]
    isplitr; · iapply (recs_inv m K (c, j)); iexact Hr
    isplitl [Hc]; · iexact Hc
    isplitl [HO]; · iexact HO
    isplitr; · rw [MayWait_zero]; iempintro
    iexact Ha
  rw [← hs]
  iintro ⟨HO, Ha, -, Hp⟩
  ihave Hp' := (Entails.of_eq (rest_eq m c j)) $$ Hp
  iapply Hk
  isplitl [HO]; · iexists _; iexact HO
  isplitl [Ha]; · iexact Ha
  iexact Hp'

/-- A cell past its one round is closed: its counter is zero. -/
theorem step_close (j : Fin 9) :
    iprop(recs m K ∗ atPos EX (kcell (c, j)) 1 ∅ 0) ⊢ iprop(|={Set.univ}[frame]=> semVal (kcell (c, j)) 0) := by
  iintro ⟨#Hr, Ha⟩
  iapply (Rounds.cell_close EX (sched m) (Set.mem_univ (K (c, j))) (fun h => h) (R := 0 + 1) (duties_later m (kcell (c, j))))
  isplitr; · iapply (recs_inv m K (c, j)); iexact Hr
  iexact Ha

/-! ## A copy to the peer -/

/-- A copy from `src` here to `dst` on the peer, over the send cell `js` here and the receive cell `jr` there: the lent
    share of the source goes into the send cell's round, the written destination into the receive cell's. -/
theorem step_copy {Q : α → sProp 𝕄} (js jr : Fin 9) (n : Dev nD) (hn : n = pr c) (sS sR : DmaSem sig) (hs : csem js = .dma sS) (hr : csem jr = .dma sR)
    {sh : Shape} {e : EltTy} (src dst : Memref sig .tc .vmem sh e) {hsc hsrc hdst hsem}
    (hN : dst.view.dmaCredit = amt js) (hN' : dst.view.dmaCredit = amt jr)
    (fs : Buf (Elt F) (src.view.loc (c : Thread nD τ))) (fd : Buf (Elt F) (dst.view.loc (pr c : Thread nD τ)))
    (O O' : CellTallies nD τ sig Unit) (hO : O' = O + ow c jr)
    (h₁ : (src.view.loc (c : Thread nD τ) ↦[src.view.set]{lent} fs : sProp 𝕄) ⊢ pay m js c)
    (h₂ : (dst.view.loc (pr c : Thread nD τ) ↦[dst.view.set]{fullShare} (dst.view.write (Elt F) fd (src.view.read (Elt F) fs) Finset.univ) : sProp 𝕄)
      ⊢ pay m jr (pr c)) :
    iprop(recs m K ∗ (src.view.loc (c : Thread nD τ) ↦[src.view.set]{lent} fs) ∗ (dst.view.loc (pr c : Thread nD τ) ↦[dst.view.set]{fullShare} fd)
        ∗ ows c O' ∗ dutyTok EX (kcell (c, js)) 0 () ∗ dutyTok EX (kcell (pr c, jr)) 0 ())
      ⊢ iprop(((cred (tallyAt (kcell (c, js)) () (amt js)) ∗ ows c O) -∗ WP c (k ⟨⟩) Q)
          -∗ WP c (.op (.enqueueDma src (.remote (Dev.tc n : Thread nD τ) dst (.dma sS) hsc) (.dma sR) hsrc hdst hsem) k) Q) := by
  subst hn
  unfold ows
  iintro ⟨#Hr, Hs, Hd, ⟨%W, HO⟩, Ht, Ht'⟩ Hk
  iapply (Rounds.wp_send_pointsTo 𝒱₀ EX (sched m) (c : Thread nD τ) none (κ₁ := K (c, js)) (κ₂ := K (pr c, jr)) (c' := (pr c : Thread nD τ))
      (r₁ := 0) (r₂ := 0) (d₁ := ()) (d₂ := ()) (fs := fs) (fd := fd) (sS := .dma sS) (sem := .dma sR) (q := lent)
      (by rw [← hs, duties_eq m c js]; exact Finset.mem_singleton_self _) (by rw [← hr, duties_eq m (pr c) jr]; exact Finset.mem_singleton_self _)
      () () (amt js) hN (by rw [← hs]; exact amount_eq m c js ()) (by rw [← hr, ← hN, hN']; exact amount_eq m (pr c) jr ())
      (O₀ := O') O (by rw [hO, ← hr, ← hN, hN']) (W := W) (by rw [← hs, payload_eq m c js]; exact h₁) (by rw [← hr, payload_eq m (pr c) jr]; exact h₂))
    $$ [Hs Hd HO Ht Ht']
  · rw [← hs, ← hr]
    isplitr; · iapply (recs_inv m K (c, js)); iexact Hr
    isplitr; · iapply (recs_inv m K (pr c, jr)); iexact Hr
    isplitl [Hs]; · iexact Hs
    isplitl [Hd]; · iexact Hd
    isplitl [HO]; · iexact HO
    isplitl [Ht]; · iexact Ht
    isplitr; · iapply (recs_reached m K (c, js)); iexact Hr
    isplitl [Ht']; · iexact Ht'
    iapply (recs_reached m K (pr c, jr)); iexact Hr
  rw [← hs]
  iintro ⟨Hc, HO⟩
  iapply Hk
  isplitl [Hc]; · iexact Hc
  iexists W; iexact HO

/-! ## Loads and stores of half buffers -/

omit [FloatOps F] in
theorem setOn_mono {s : Shape} {e : EltTy} (M : Memref sig .tc .vmem s e) {r r0 : Rect s} (h0 : ∀ a, r0.stride a = 1) (h : r.set ⊆ r0.set) :
    M.view.setOn r.toLoadRect.set ⊆ (M.slice r0 h0).view.set := by
  rw [show (M.slice r0 h0).view.set = M.view.setOn r0.set from View.set_slice M.view r0]
  exact Finset.map_subset_map.mpr h

/-- A load within a held part of a buffer, at any share. -/
theorem step_load {Q : α → sProp 𝕄} {s : Shape} {e : EltTy} (M : Memref sig .tc .vmem s e) (r0 r : Rect s) (h0 : ∀ a, r0.stride a = 1) (hsub : r.set ⊆ r0.set)
    (q : PosShare TreeShare) (f : Buf (Elt F) ((M.slice r0 h0).view.loc (c : Thread nD τ))) {hl}
    {k' : (r.shape.Idx → Elt F e) → Prog (TpuEff nD τ sig (Elt F) Λ₀ .tc) α} :
    ((M.slice r0 h0).view.loc (c : Thread nD τ) ↦[(M.slice r0 h0).view.set]{q} f : sProp 𝕄)
      ⊢ iprop((((M.slice r0 h0).view.loc (c : Thread nD τ) ↦[(M.slice r0 h0).view.set]{q} f) -∗ WP c (k' (M.view.readAt (Elt F) r.toLoadRect f)) Q)
          -∗ WP c (.op (.load M r.toLoadRect hl) k') Q) :=
  wp_load 𝒱₀ (c : Thread nD τ) none Set.univ (m := M) (setOn_mono M h0 hsub)

/-- Head `h` stored into a held half of the accumulators, -/
theorem step_storeA {Q : α → sProp 𝕄} (r0 : Rect S8x8x64) (h0 : ∀ a, r0.stride a = 1) (h : ℕ)
    (inb : ∀ a : Fin 3, (![h, 0, 0] : Fin 3 → ℕ) a + S1x8x64.size a ≤ S8x8x64.size a) (hsub : (rowA h inb).set ⊆ r0.set)
    (f : S8x8x64.Idx → F .f32) (w : S1x8x64.Idx → F .f32) {hx hm} :
    ((aS.slice r0 h0).view.loc (c : Thread nD τ) ↦[(aS.slice r0 h0).view.set]{fullShare} f : sProp 𝕄)
      ⊢ iprop((((aS.slice r0 h0).view.loc (c : Thread nD τ) ↦[(aS.slice r0 h0).view.set]{fullShare} (putA h w f)) -∗ WP c (k ⟨⟩) Q)
          -∗ WP c (.op (.store aS (rowA h inb) w Finset.univ hx hm) k) Q) := by
  rw [← write_rowA h inb f w]
  exact wp_store 𝒱₀ (c : Thread nD τ) none Set.univ (m := aS) (r := rowA h inb) (Mk := Finset.univ)
    (by rw [setOn_rowA, show (aS.slice r0 h0).view.set = r0.set from View.set_slice_whole _ _]; exact hsub)
/-- of the denominators, -/
theorem step_storeD {Q : α → sProp 𝕄} (r0 : Rect S8x8x1) (h0 : ∀ a, r0.stride a = 1) (h : ℕ)
    (inb : ∀ a : Fin 3, (![h, 0, 0] : Fin 3 → ℕ) a + S1x8x1.size a ≤ S8x8x1.size a) (hsub : (rowD h inb).set ⊆ r0.set)
    (f : S8x8x1.Idx → F .f32) (w : S1x8x1.Idx → F .f32) {hx hm} :
    ((dS.slice r0 h0).view.loc (c : Thread nD τ) ↦[(dS.slice r0 h0).view.set]{fullShare} f : sProp 𝕄)
      ⊢ iprop((((dS.slice r0 h0).view.loc (c : Thread nD τ) ↦[(dS.slice r0 h0).view.set]{fullShare} (putD h w f)) -∗ WP c (k ⟨⟩) Q)
          -∗ WP c (.op (.store dS (rowD h inb) w Finset.univ hx hm) k) Q) := by
  rw [← write_rowD h inb f w]
  exact wp_store 𝒱₀ (c : Thread nD τ) none Set.univ (m := dS) (r := rowD h inb) (Mk := Finset.univ)
    (by rw [setOn_rowD, show (dS.slice r0 h0).view.set = r0.set from View.set_slice_whole _ _]; exact hsub)
/-- and of the result. -/
theorem step_storeO {Q : α → sProp 𝕄} (h : ℕ) (inb : ∀ a : Fin 4, (![0, 0, h, 0] : Fin 4 → ℕ) a + S8x1x1x64.size a ≤ S8x1x8x64.size a)
    (f : S8x1x8x64.Idx → F .f32) (w : S8x1x1x64.Idx → F .f32) {hx hm} :
    whA (F := F) c cc0_stg5_0 f
      ⊢ iprop((whA (F := F) c cc0_stg5_0 (putO h w f) -∗ WP c (k ⟨⟩) Q)
          -∗ WP c (.op (.store oM (rowO h inb) w Finset.univ hx hm) k) Q) := by
  rw [← write_rowO h inb f w]
  exact wp_store 𝒱₀ (c : Thread nD τ) none Set.univ (m := oM) (r := rowO h inb) (Mk := Finset.univ) (Finset.subset_univ _)

/-! ## Heads within halves -/

theorem rowA_lo (h : ℕ) (inb : ∀ a : Fin 3, (![h, 0, 0] : Fin 3 → ℕ) a + S1x8x64.size a ≤ S8x8x64.size a) (hh : h < 4) : (rowA h inb).set ⊆ rA0.set :=
  fun i hi => (mem_rowsA i).mpr (by have := (mem_rowsA (o := h) (n := 1) (inb := inb) i).mp hi; omega)
theorem rowA_hi (h : ℕ) (inb : ∀ a : Fin 3, (![h, 0, 0] : Fin 3 → ℕ) a + S1x8x64.size a ≤ S8x8x64.size a) (hh : 4 ≤ h) : (rowA h inb).set ⊆ rA4.set :=
  fun i hi => (mem_rowsA i).mpr (by have := (mem_rowsA (o := h) (n := 1) (inb := inb) i).mp hi; have h' : (i 0 : Fin 8).val < 8 := (i 0 : Fin 8).isLt; omega)
theorem rowD_lo (h : ℕ) (inb : ∀ a : Fin 3, (![h, 0, 0] : Fin 3 → ℕ) a + S1x8x1.size a ≤ S8x8x1.size a) (hh : h < 4) : (rowD h inb).set ⊆ rD0.set :=
  fun i hi => (mem_rowsD i).mpr (by have := (mem_rowsD (o := h) (n := 1) (inb := inb) i).mp hi; omega)
theorem rowD_hi (h : ℕ) (inb : ∀ a : Fin 3, (![h, 0, 0] : Fin 3 → ℕ) a + S1x8x1.size a ≤ S8x8x1.size a) (hh : 4 ≤ h) : (rowD h inb).set ⊆ rD4.set :=
  fun i hi => (mem_rowsD i).mpr (by have := (mem_rowsD (o := h) (n := 1) (inb := inb) i).mp hi; have h' : (i 0 : Fin 8).val < 8 := (i 0 : Fin 8).isLt; omega)

end Cert.Paged

end
-- ==== Proof.PartsA.lean ====
/-
What each stretch of the kernel body does to the buffers it touches.
-/
module

public import proofs.«01_k».proof.Proof.Steps

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 9 → ℕ) (c : Dev nD)

/-- A stretch of the body on the buffers and semaphores the kernel is called with. -/
abbrev onArgs {β : Type 1} (p : (arg0 : Memref sig .tc .vmem S8x1x8x64 .f32) → (harg0 : arg0.IsWhole) → (arg1 : Memref sig .tc .vmem S64x16x8x64 .f32) → (harg1 : arg1.IsWhole) → (arg2 : Memref sig .tc .vmem S64x16x8x64 .f32) → (harg2 : arg2.IsWhole) → (arg3 : Memref sig .tc .vmem S8x64 .i32) → (harg3 : arg3.IsWhole) → (arg4 : Memref sig .tc .vmem S8 .i32) → (harg4 : arg4.IsWhole) → (arg5 : Memref sig .tc .vmem S8x1x8x64 .f32) → (harg5 : arg5.IsWhole) → (arg6 : Memref sig .tc .vmem S8x8x64 .f32) → (harg6 : arg6.IsWhole) → (arg7 : Memref sig .tc .vmem S8x8x64 .f32) → (harg7 : arg7.IsWhole) → (arg8 : Memref sig .tc .vmem S8x8x1 .f32) → (harg8 : arg8.IsWhole) → (arg9 : Memref sig .tc .vmem S8x8x1 .f32) → (harg9 : arg9.IsWhole) → (arg10 : DmaSems sig S2) → (arg11 : DmaSems sig S2) → (arg12 : DmaSems sig S2) → (arg13 : DmaSems sig S2) → β) : β :=
  p (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7

/-- The device's x coordinate and its peer's y coordinate, as the program computes them; nothing depends on them. -/
abbrev wx : BitVec 32 := Scalar.remsi (Scalar.divsi (Dev.word c) 2#32) 2#32
abbrev wy : BitVec 32 := Scalar.subi 1#32 (Scalar.remsi (Scalar.divsi (Dev.word c) 1#32) 2#32)

omit [FloatOps F] in
theorem zero1 : (![0] : Fin 1 → Nat) = fun _ => 0 := funext fun a => by fin_cases a; rfl
omit [FloatOps F] in
theorem zero2 : (![0, 0] : Fin 2 → Nat) = fun _ => 0 := funext fun a => by fin_cases a <;> rfl
omit [FloatOps F] in
theorem zero4 : (![0, 0, 0, 0] : Fin 4 → Nat) = fun _ => 0 := funext fun a => by fin_cases a <;> rfl

omit [FloatOps F] in
theorem read_B (f : (cc0_stg3_0 : Ref sig .tc).ty.Contents (Elt F)) :
    (Memref.whole cc0_stg3_0 : Memref sig .tc .vmem S8x64 .i32).view.readAt (Elt F) (Rect.unit (s := S8x64) ![0, 0] S8x64.size inb_S8x64_S8x64_0_0).toLoadRect f = f :=
  Memref.readAt_unit_zero (Elt F) cc0_stg3_0 zero2 _ f
omit [FloatOps F] in
theorem read_L (f : (cc0_stg4_0 : Ref sig .tc).ty.Contents (Elt F)) :
    (Memref.whole cc0_stg4_0 : Memref sig .tc .vmem S8 .i32).view.readAt (Elt F) (Rect.unit (s := S8) ![0] S8.size inb_S8_S8_0).toLoadRect f = f :=
  Memref.readAt_unit_zero (Elt F) cc0_stg4_0 zero1 _ f
omit [FloatOps F] in
theorem read_Q (f : (cc0_stg0_0 : Ref sig .tc).ty.Contents (Elt F)) :
    (Memref.whole cc0_stg0_0 : Memref sig .tc .vmem S8x1x8x64 .f32).view.readAt (Elt F) (Rect.unit (s := S8x1x8x64) ![0, 0, 0, 0] S8x1x8x64.size inb_S8x1x8x64_S8x1x8x64_0_0_0_0).toLoadRect f = f :=
  Memref.readAt_unit_zero (Elt F) cc0_stg0_0 zero4 _ f

/-- The start: the signal, and the loads of the block table and the lengths. -/
theorem part1 {Kt} :
    iprop(recs m K ∗ ows c (O₀ c) ∗ dutyTok EX (kcell (pr c, 0)) 0 () ∗ landing (F := F) c ∗ whA (F := F) c cc0_stg3_0 (stB m c) ∗ whA (F := F) c cc0_stg4_0 (stL m c)
        ∗ ((ows c (O5 c) ∗ whA (F := F) c cc0_stg3_0 (stB m c) ∗ whA (F := F) c cc0_stg4_0 (stL m c))
            -∗ Kt ⟨c, wx c, wy c, SemArray.scalar (sig.barrier 0 rfl), lp m c, pids, k0_pay2 c (stB m c) (stL m c), k0_pay3 c (stB m c) (stL m c)⟩))
      ⊢ WP (F := F) c (onArgs k0_part1) Kt := by
  unfold onArgs
  simp only [k0_part1_eq_skeleton]; unfold k0_part1_skel
  simp only [semSignalWord, semWaitWord, Prog.lift, Prog.bind_op, Prog.bind_ret, Prog.pure_eq_ret, wp_deviceId]
  iintro ⟨#Hr, HO, Ht, Hl, HB, HL, Hk⟩
  simp only [dev1_eq c]
  iapply (step_signal m K c (n := _) rfl) $$ [HO Ht Hl]
  · isplitr; · iexact Hr
    isplitl [HO]; · iexact HO
    isplitl [Ht]; · iexact Ht
    iexact Hl
  iintro HO
  iapply (wp_load 𝒱₀ (c : Thread nD τ) none Set.univ (m := Memref.whole cc0_stg3_0) (Finset.subset_univ _)) $$ HB; iintro HB
  rw [read_B]
  iapply (wp_load 𝒱₀ (c : Thread nD τ) none Set.univ (m := Memref.whole cc0_stg4_0) (Finset.subset_univ _)) $$ HL; iintro HL
  rw [read_L]
  simp only [WP, wp_ret]; imodintro
  rw [show k0_pay1 c (stB m c) (stL m c) = lp m c from rfl]
  iapply Hk
  isplitl [HO]; · iexact HO
  isplitl [HB]; · iexact HB
  iexact HL

/-- The last of the counting, and the load of the queries. -/
theorem part8 {Kt} (v24 v25 : IVec S8x64 32) (v398 : FVec F S8x64 .f32) (v402 : IVec S8x64 32) (w : FVec F S8x1024 .f32) (hw : k0_pay16 v24 v25 v398 v402 = w) :
    iprop(whA (F := F) c cc0_stg0_0 (stQ m c)
        ∗ (whA (F := F) c cc0_stg0_0 (stQ m c)
            -∗ Kt ⟨w, qAll m c, iota .tc S32x256 32 [0] iota_S32x256_d0_w32, iota .tc S32x256 32 [1] iota_S32x256_d1_w32, 8#32, k0_pay18, k0_pay19⟩))
      ⊢ WP (F := F) c (onArgs k0_part8 v24 v25 v398 v402) Kt := by
  unfold onArgs
  simp only [k0_part8_eq_skeleton]; unfold k0_part8_skel
  simp only [semSignalWord, semWaitWord, Prog.lift, Prog.bind_op, Prog.bind_ret, Prog.pure_eq_ret, wp_deviceId]
  rw [hw]
  iintro ⟨HQ, Hk⟩
  iapply (wp_load 𝒱₀ (c : Thread nD τ) none Set.univ (m := Memref.whole cc0_stg0_0) (Finset.subset_univ _)) $$ HQ; iintro HQ
  rw [read_Q]
  simp only [WP, wp_ret]; imodintro
  rw [show k0_pay17 (stQ m c) = qAll m c from rfl]
  iapply Hk; iexact HQ

/-- The first wave pair's products, and the stores of head 0 and of head 1's accumulator. -/
theorem part10 {Kt} (f : S8x8x64.Idx → F .f32) (g : S8x8x1.Idx → F .f32) :
    iprop(whA (F := F) c cc0_stg1_0 (stK m c) ∗ whA (F := F) c cc0_stg2_0 (stV m c) ∗ ptA (F := F) c aS0 fullShare f ∗ ptD (F := F) c dS0 fullShare g
        ∗ ((whA (F := F) c cc0_stg1_0 (stK m c) ∗ whA (F := F) c cc0_stg2_0 (stV m c)
              ∗ ptA (F := F) c aS0 fullShare (putA 1 (accH m c 1) (putA 0 (accH m c 0) f)) ∗ ptD (F := F) c dS0 fullShare (putD 0 (denH m c 0) g))
            -∗ Kt ⟨l0 m c, p0 m c, k0_pay29 bdm (wt4 m c) (q0 m c) (key0 m c), dS.view.readAt (Elt F) (rowD 1 inb_S8x8x1_S1x8x1_1_0_0).toLoadRect (putD 0 (denH m c 0) g)⟩))
      ⊢ WP (F := F) c (onArgs k0_part10 bdm (wt4 m c) (q0 m c)) Kt := by
  unfold onArgs
  simp only [k0_part10_eq_skeleton]; unfold k0_part10_skel
  simp only [semSignalWord, semWaitWord, Prog.lift, Prog.bind_op, Prog.bind_ret, Prog.pure_eq_ret, wp_deviceId]
  unfold ptA ptD
  iintro ⟨HK, HV, HA, HD, Hk⟩
  iapply (wp_load 𝒱₀ (c : Thread nD τ) none Set.univ (m := kM) (Finset.subset_univ _)) $$ HK; iintro HK
  rw [show kM.view.readAt (Elt F) rK0.toLoadRect (stK m c) = key0 m c from rfl]
  iapply (wp_load 𝒱₀ (c : Thread nD τ) none Set.univ (m := vM) (Finset.subset_univ _)) $$ HV; iintro HV
  rw [show vM.view.readAt (Elt F) rK0.toLoadRect (stV m c) = val0 m c from rfl]
  rw [show k0_pay26 bdm (wt4 m c) (q0 m c) (key0 m c) (val0 m c) = accH m c 0 from rfl, show k0_pay28 bdm (wt4 m c) (q0 m c) (key0 m c) (val0 m c) = accH m c 1 from rfl,
    show k0_pay27 bdm (wt4 m c) (q0 m c) (key0 m c) = denH m c 0 from rfl, show k0_pay24 bdm (wt4 m c) (q0 m c) (key0 m c) = l0 m c from rfl,
    show k0_pay25 bdm (wt4 m c) (q0 m c) (key0 m c) (val0 m c) = p0 m c from rfl]
  iapply (step_load c aS rA0 (rowA 0 _) (fun _ => rfl) (rowA_lo 0 _ (by decide)) fullShare _) $$ HA; iintro HA
  iapply (step_storeA c rA0 (fun _ => rfl) 0 _ (rowA_lo 0 _ (by decide)) _ _) $$ HA; iintro HA
  iapply (step_load c dS rD0 (rowD 0 _) (fun _ => rfl) (rowD_lo 0 _ (by decide)) fullShare _) $$ HD; iintro HD
  iapply (step_storeD c rD0 (fun _ => rfl) 0 _ (rowD_lo 0 _ (by decide)) _ _) $$ HD; iintro HD
  iapply (step_load c aS rA0 (rowA 1 _) (fun _ => rfl) (rowA_lo 1 _ (by decide)) fullShare _) $$ HA; iintro HA
  iapply (step_storeA c rA0 (fun _ => rfl) 1 _ (rowA_lo 1 _ (by decide)) _ _) $$ HA; iintro HA
  iapply (step_load c dS rD0 (rowD 1 _) (fun _ => rfl) (rowD_lo 1 _ (by decide)) fullShare _) $$ HD; iintro HD
  simp only [WP, wp_ret]; imodintro
  iapply Hk
  isplitl [HK]; · iexact HK
  isplitl [HV]; · iexact HV
  isplitl [HA]; · iexact HA
  iexact HD

/-- The rest of heads 0–3, the wait for the peer, and the first copy. -/
theorem part11 {Kt} (f : S8x8x64.Idx → F .f32) (g : S8x8x1.Idx → F .f32) (v2 v6 : BitVec 32) (x : Vec F S1x8x1 .f32) :
    iprop(recs m K ∗ levAts L lv ∗ ptA (F := F) c aS0 fullShare (putA 1 (accH m c 1) (putA 0 (accH m c 0) f)) ∗ ptD (F := F) c dS0 fullShare (putD 0 (denH m c 0) g)
        ∗ cred (tallyAt (kcell (c, 0)) () (amt 0)) ∗ ows c (O5 c) ∗ atPos EX (kcell (c, 0)) 0 ∅ 0
        ∗ dutyTok EX (kcell (c, 1)) 0 () ∗ dutyTok EX (kcell (pr c, 5)) 0 ()
        ∗ ((ptA (F := F) c aS0 kept (accC m c) ∗ ptD (F := F) c dS0 fullShare (denC m c) ∗ atPos EX (kcell (c, 0)) 1 ∅ 0
              ∗ (∃ h, ptD (F := F) (pr c) dR0 fullShare h) ∗ (∃ h, ptA (F := F) (pr c) aR4 fullShare h) ∗ (∃ h, ptD (F := F) (pr c) dR4 fullShare h)
              ∗ cred (tallyAt (kcell (c, 1)) () (amt 1)) ∗ ows c (O6 c))
            -∗ Kt ⟨⟩))
      ⊢ WP (F := F) c (onArgs k0_part11 c v2 v6 (SemArray.scalar (sig.barrier 0 rfl)) (l0 m c) (p0 m c) (k0_pay29 bdm (wt4 m c) (q0 m c) (key0 m c)) x) Kt := by
  unfold onArgs
  simp only [k0_part11_eq_skeleton]; unfold k0_part11_skel
  simp only [semSignalWord, semWaitWord, Prog.lift, Prog.bind_op, Prog.bind_ret, Prog.pure_eq_ret, wp_deviceId]
  unfold ptA ptD
  rw [show k0_pay30 (k0_pay29 bdm (wt4 m c) (q0 m c) (key0 m c)) = denH m c 1 from rfl, show k0_pay31 (p0 m c) = accH m c 2 from rfl,
    show k0_pay33 (p0 m c) = accH m c 3 from rfl, show k0_pay32 (l0 m c) = denH m c 2 from rfl, show k0_pay34 (l0 m c) = denH m c 3 from rfl]
  iintro ⟨#Hr, #Hlev, HA, HD, Hc, HO, Hat, Ht1, Ht5, Hk⟩
  iapply (step_storeD c rD0 (fun _ => rfl) 1 _ (rowD_lo 1 _ (by decide)) _ _) $$ HD; iintro HD
  iapply (step_load c aS rA0 (rowA 2 _) (fun _ => rfl) (rowA_lo 2 _ (by decide)) fullShare _) $$ HA; iintro HA
  iapply (step_storeA c rA0 (fun _ => rfl) 2 _ (rowA_lo 2 _ (by decide)) _ _) $$ HA; iintro HA
  iapply (step_load c dS rD0 (rowD 2 _) (fun _ => rfl) (rowD_lo 2 _ (by decide)) fullShare _) $$ HD; iintro HD
  iapply (step_storeD c rD0 (fun _ => rfl) 2 _ (rowD_lo 2 _ (by decide)) _ _) $$ HD; iintro HD
  iapply (step_load c aS rA0 (rowA 3 _) (fun _ => rfl) (rowA_lo 3 _ (by decide)) fullShare _) $$ HA; iintro HA
  iapply (step_storeA c rA0 (fun _ => rfl) 3 _ (rowA_lo 3 _ (by decide)) _ _) $$ HA; iintro HA
  iapply (step_load c dS rD0 (rowD 3 _) (fun _ => rfl) (rowD_lo 3 _ (by decide)) fullShare _) $$ HD; iintro HD
  iapply (step_storeD c rD0 (fun _ => rfl) 3 _ (rowD_lo 3 _ (by decide)) _ _) $$ HD; iintro HD
  iapply (step_bar m K c (n := _) rfl) $$ [Hc HO Hat]
  · isplitr; · iexact Hr
    isplitr; · iexact Hlev
    isplitl [Hc]; · iexact Hc
    isplitl [HO]; · iexact HO
    iexact Hat
  iintro ⟨HO, Hat, Hland⟩
  unfold landing
  icases Hland with ⟨⟨%fd, Hd⟩, HdD, HdA4, HdD4⟩
  unfold ptA ptD
  ihave HA' := (Entails.of_eq (accs_lo (F := F) c m f)) $$ [HA]
  · unfold ptA; iexact HA
  ihave HD' := (Entails.of_eq (dens_lo (F := F) c m g)) $$ [HD]
  · unfold ptD; iexact HD
  ihave HA2 := (shareA (F := F) c aS0 (accC m c)).1 $$ HA'
  icases HA2 with ⟨HAl, HAk⟩
  unfold ptA ptD
  iapply (step_copy m K c 1 5 _ (dev2_eq c) (sem0 cc0_scratch4) (sem0 cc0_scratch5) rfl rfl aS0 aR0 rfl rfl (accC m c) fd (O6 c) (O5 c) rfl
      (by exact BI.Entails.refl _) (by exact Entails.of_eq ((pointsTo_congr fun i hi => (land_aR0 fd (accC m c) i hi).trans (congrArg (fun d => accC m d i) (pr_pr c).symm)))))
    $$ [HAl Hd HO Ht1 Ht5]
  · isplitr; · iexact Hr
    isplitl [HAl]; · iexact HAl
    isplitl [Hd]; · iexact Hd
    isplitl [HO]; · iexact HO
    isplitl [Ht1]; · iexact Ht1
    iexact Ht5
  iintro ⟨Hc, HO⟩
  simp only [WP, wp_ret]; imodintro
  iapply Hk
  isplitl [HAk]; · iexact HAk
  isplitl [HD']; · iexact HD'
  isplitl [Hat]; · iexact Hat
  isplitl [HdD]; · iexact HdD
  isplitl [HdA4]; · iexact HdA4
  isplitl [HdD4]; · iexact HdD4
  isplitl [Hc]; · iexact Hc
  iexact HO

end Cert.Paged

end
-- ==== Proof.PartsB.lean ====
/-
What each stretch of the kernel body does to the buffers it touches: the second wave pair and the combining steps.
-/
module

public import proofs.«01_k».proof.Proof.PartsA

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 9 → ℕ) (c : Dev nD)

/-- The copy of the first denominators, and the second wave pair's products. -/
theorem part12 {Kt} (f : S8x8x64.Idx → F .f32) (v2 v6 : BitVec 32) :
    iprop(recs m K ∗ ptD (F := F) c dS0 fullShare (denC m c) ∗ (∃ h, ptD (F := F) (pr c) dR0 fullShare h) ∗ ows c (O6 c)
        ∗ dutyTok EX (kcell (c, 2)) 0 () ∗ dutyTok EX (kcell (pr c, 6)) 0 ()
        ∗ whA (F := F) c cc0_stg1_0 (stK m c) ∗ whA (F := F) c cc0_stg2_0 (stV m c) ∗ ptA (F := F) c aS4 fullShare f
        ∗ ((ptD (F := F) c dS0 kept (denC m c) ∗ cred (tallyAt (kcell (c, 2)) () (amt 2)) ∗ ows c (O7 c)
              ∗ whA (F := F) c cc0_stg1_0 (stK m c) ∗ whA (F := F) c cc0_stg2_0 (stV m c) ∗ ptA (F := F) c aS4 fullShare f)
            -∗ Kt ⟨l4 m c, p4 m c, k0_pay38 (qAll m c) bdm (wt4 m c) (key4 m c) (val4 m c), aS.view.readAt (Elt F) (rowA 4 inb_S8x8x64_S1x8x64_4_0_0).toLoadRect f⟩))
      ⊢ WP (F := F) c (onArgs k0_part12 c v2 v6 (qAll m c) bdm (wt4 m c)) Kt := by
  unfold onArgs
  simp only [k0_part12_eq_skeleton]; unfold k0_part12_skel
  simp only [semSignalWord, semWaitWord, Prog.lift, Prog.bind_op, Prog.bind_ret, Prog.pure_eq_ret, wp_deviceId]
  iintro ⟨#Hr, HD, ⟨%fd, Hd⟩, HO, Ht2, Ht6, HK, HV, HA, Hk⟩
  ihave HD2 := (shareD (F := F) c dS0 (denC m c)).1 $$ HD
  icases HD2 with ⟨HDl, HDk⟩
  unfold ptA ptD
  iapply (step_copy m K c 2 6 _ (dev3_eq c) (sem0 cc0_scratch6) (sem0 cc0_scratch7) rfl rfl dS0 dR0 rfl rfl (denC m c) fd (O7 c) (O6 c) rfl
      (by exact BI.Entails.refl _) (by exact Entails.of_eq ((pointsTo_congr fun i hi => (land_dR0 fd (denC m c) i hi).trans (congrArg (fun d => denC m d i) (pr_pr c).symm)))))
    $$ [HDl Hd HO Ht2 Ht6]
  · isplitr; · iexact Hr
    isplitl [HDl]; · iexact HDl
    isplitl [Hd]; · iexact Hd
    isplitl [HO]; · iexact HO
    isplitl [Ht2]; · iexact Ht2
    iexact Ht6
  iintro ⟨Hc, HO⟩
  iapply (wp_load 𝒱₀ (c : Thread nD τ) none Set.univ (m := kM) (Finset.subset_univ _)) $$ HK; iintro HK
  rw [show kM.view.readAt (Elt F) rK4.toLoadRect (stK m c) = key4 m c from rfl]
  iapply (wp_load 𝒱₀ (c : Thread nD τ) none Set.univ (m := vM) (Finset.subset_univ _)) $$ HV; iintro HV
  rw [show vM.view.readAt (Elt F) rK4.toLoadRect (stV m c) = val4 m c from rfl,
    show k0_pay36 (qAll m c) bdm (wt4 m c) (key4 m c) = l4 m c from rfl, show k0_pay37 (qAll m c) bdm (wt4 m c) (key4 m c) (val4 m c) = p4 m c from rfl]
  iapply (step_load c aS rA4 (rowA 4 _) (fun _ => rfl) (rowA_hi 4 _ (by decide)) fullShare _) $$ HA; iintro HA
  simp only [WP, wp_ret]; imodintro
  iapply Hk
  isplitl [HDk]; · iexact HDk
  isplitl [Hc]; · iexact Hc
  isplitl [HO]; · iexact HO
  isplitl [HK]; · iexact HK
  isplitl [HV]; · iexact HV
  iexact HA

/-- The stores of heads 4–7. -/
theorem part13 {Kt} (f : S8x8x64.Idx → F .f32) (g : S8x8x1.Idx → F .f32) (x : Vec F S1x8x64 .f32) :
    iprop(ptA (F := F) c aS4 fullShare f ∗ ptD (F := F) c dS4 fullShare g
        ∗ ((ptA (F := F) c aS4 fullShare (accC m c) ∗ ptD (F := F) c dS4 fullShare (denC m c)) -∗ Kt ⟨⟩))
      ⊢ WP (F := F) c (onArgs k0_part13 (l4 m c) (p4 m c) (k0_pay38 (qAll m c) bdm (wt4 m c) (key4 m c) (val4 m c)) x) Kt := by
  unfold onArgs
  simp only [k0_part13_eq_skeleton]; unfold k0_part13_skel
  simp only [semSignalWord, semWaitWord, Prog.lift, Prog.bind_op, Prog.bind_ret, Prog.pure_eq_ret, wp_deviceId]
  rw [show k0_pay39 (k0_pay38 (qAll m c) bdm (wt4 m c) (key4 m c) (val4 m c)) = accH m c 4 from rfl, show k0_pay41 (p4 m c) = accH m c 5 from rfl,
    show k0_pay43 (p4 m c) = accH m c 6 from rfl, show k0_pay45 (p4 m c) = accH m c 7 from rfl, show k0_pay40 (l4 m c) = denH m c 4 from rfl,
    show k0_pay42 (l4 m c) = denH m c 5 from rfl, show k0_pay44 (l4 m c) = denH m c 6 from rfl, show k0_pay46 (l4 m c) = denH m c 7 from rfl]
  rw [← accs_hi (F := F) c m f, ← dens_hi (F := F) c m g]
  unfold ptA ptD
  iintro ⟨HA, HD, Hk⟩
  iapply (step_storeA c rA4 (fun _ => rfl) 4 _ (rowA_hi 4 _ (by decide)) _ _) $$ HA; iintro HA
  iapply (step_load c dS rD4 (rowD 4 _) (fun _ => rfl) (rowD_hi 4 _ (by decide)) fullShare _) $$ HD; iintro HD
  iapply (step_storeD c rD4 (fun _ => rfl) 4 _ (rowD_hi 4 _ (by decide)) _ _) $$ HD; iintro HD
  iapply (step_load c aS rA4 (rowA 5 _) (fun _ => rfl) (rowA_hi 5 _ (by decide)) fullShare _) $$ HA; iintro HA
  iapply (step_storeA c rA4 (fun _ => rfl) 5 _ (rowA_hi 5 _ (by decide)) _ _) $$ HA; iintro HA
  iapply (step_load c dS rD4 (rowD 5 _) (fun _ => rfl) (rowD_hi 5 _ (by decide)) fullShare _) $$ HD; iintro HD
  iapply (step_storeD c rD4 (fun _ => rfl) 5 _ (rowD_hi 5 _ (by decide)) _ _) $$ HD; iintro HD
  iapply (step_load c aS rA4 (rowA 6 _) (fun _ => rfl) (rowA_hi 6 _ (by decide)) fullShare _) $$ HA; iintro HA
  iapply (step_storeA c rA4 (fun _ => rfl) 6 _ (rowA_hi 6 _ (by decide)) _ _) $$ HA; iintro HA
  iapply (step_load c dS rD4 (rowD 6 _) (fun _ => rfl) (rowD_hi 6 _ (by decide)) fullShare _) $$ HD; iintro HD
  iapply (step_storeD c rD4 (fun _ => rfl) 6 _ (rowD_hi 6 _ (by decide)) _ _) $$ HD; iintro HD
  iapply (step_load c aS rA4 (rowA 7 _) (fun _ => rfl) (rowA_hi 7 _ (by decide)) fullShare _) $$ HA; iintro HA
  iapply (step_storeA c rA4 (fun _ => rfl) 7 _ (rowA_hi 7 _ (by decide)) _ _) $$ HA; iintro HA
  iapply (step_load c dS rD4 (rowD 7 _) (fun _ => rfl) (rowD_hi 7 _ (by decide)) fullShare _) $$ HD; iintro HD
  iapply (step_storeD c rD4 (fun _ => rfl) 7 _ (rowD_hi 7 _ (by decide)) _ _) $$ HD; iintro HD
  simp only [WP, wp_ret]; imodintro
  iapply Hk
  isplitl [HA]; · iexact HA
  iexact HD

/-- The copies of heads 4–7. -/
theorem part14 {Kt} (v2 v6 : BitVec 32) :
    iprop(recs m K ∗ ptA (F := F) c aS4 fullShare (accC m c) ∗ ptD (F := F) c dS4 fullShare (denC m c)
        ∗ (∃ h, ptA (F := F) (pr c) aR4 fullShare h) ∗ (∃ h, ptD (F := F) (pr c) dR4 fullShare h) ∗ ows c (O7 c)
        ∗ dutyTok EX (kcell (c, 3)) 0 () ∗ dutyTok EX (kcell (pr c, 7)) 0 () ∗ dutyTok EX (kcell (c, 4)) 0 () ∗ dutyTok EX (kcell (pr c, 8)) 0 ()
        ∗ ((ptA (F := F) c aS4 kept (accC m c) ∗ ptD (F := F) c dS4 kept (denC m c) ∗ cred (tallyAt (kcell (c, 3)) () (amt 3)) ∗ cred (tallyAt (kcell (c, 4)) () (amt 4))
              ∗ ows c 0) -∗ Kt ⟨⟩))
      ⊢ WP (F := F) c (onArgs k0_part14 c v2 v6) Kt := by
  unfold onArgs
  simp only [k0_part14_eq_skeleton]; unfold k0_part14_skel
  simp only [semSignalWord, semWaitWord, Prog.lift, Prog.bind_op, Prog.bind_ret, Prog.pure_eq_ret, wp_deviceId]
  iintro ⟨#Hr, HA, HD, ⟨%fa, Ha⟩, ⟨%fd, Hd⟩, HO, Ht3, Ht7, Ht4, Ht8, Hk⟩
  ihave HA2 := (shareA (F := F) c aS4 (accC m c)).1 $$ HA
  icases HA2 with ⟨HAl, HAk⟩
  ihave HD2 := (shareD (F := F) c dS4 (denC m c)).1 $$ HD
  icases HD2 with ⟨HDl, HDk⟩
  unfold ptA ptD
  iapply (step_copy m K c 3 7 _ (dev4_eq c) (sem1 cc0_scratch4) (sem1 cc0_scratch5) rfl rfl aS4 aR4 rfl rfl (accC m c) fa (O8 c) (O7 c) rfl
      (by exact BI.Entails.refl _) (by exact Entails.of_eq ((pointsTo_congr fun i hi => (land_aR4 fa (accC m c) i hi).trans (congrArg (fun d => accC m d i) (pr_pr c).symm)))))
    $$ [HAl Ha HO Ht3 Ht7]
  · isplitr; · iexact Hr
    isplitl [HAl]; · iexact HAl
    isplitl [Ha]; · iexact Ha
    isplitl [HO]; · iexact HO
    isplitl [Ht3]; · iexact Ht3
    iexact Ht7
  iintro ⟨Hc3, HO⟩
  iapply (step_copy m K c 4 8 _ (dev5_eq c) (sem1 cc0_scratch6) (sem1 cc0_scratch7) rfl rfl dS4 dR4 rfl rfl (denC m c) fd (0) (O8 c) rfl
      (by exact BI.Entails.refl _) (by exact Entails.of_eq ((pointsTo_congr fun i hi => (land_dR4 fd (denC m c) i hi).trans (congrArg (fun d => denC m d i) (pr_pr c).symm)))))
    $$ [HDl Hd HO Ht4 Ht8]
  · isplitr; · iexact Hr
    isplitl [HDl]; · iexact HDl
    isplitl [Hd]; · iexact Hd
    isplitl [HO]; · iexact HO
    isplitl [Ht4]; · iexact Ht4
    iexact Ht8
  iintro ⟨Hc4, HO⟩
  simp only [WP, wp_ret]; imodintro
  iapply Hk
  isplitl [HAk]; · iexact HAk
  isplitl [HDk]; · iexact HDk
  isplitl [Hc3]; · iexact Hc3
  isplitl [Hc4]; · iexact Hc4
  iexact HO

/-- The first two landings, and heads 0–3 combined: head 0 stored. -/
theorem part15 {Kt} (v2 v6 : BitVec 32) (o : S8x1x8x64.Idx → F .f32) :
    iprop(recs m K ∗ cred (tallyAt (kcell (c, 5)) () (amt 5)) ∗ cred (tallyAt (kcell (c, 6)) () (amt 6)) ∗ ows c 0
        ∗ atPos EX (kcell (c, 5)) 0 ∅ 0 ∗ atPos EX (kcell (c, 6)) 0 ∅ 0
        ∗ ptA (F := F) c aS0 kept (accC m c) ∗ ptD (F := F) c dS0 kept (denC m c) ∗ whA (F := F) c cc0_stg5_0 o
        ∗ ((ows c 0 ∗ atPos EX (kcell (c, 5)) 1 ∅ 0 ∗ atPos EX (kcell (c, 6)) 1 ∅ 0
              ∗ ptA (F := F) c aS0 kept (accC m c) ∗ ptD (F := F) c dS0 kept (denC m c)
              ∗ ptA (F := F) c aR0 fullShare (accC m (pr c)) ∗ ptD (F := F) c dR0 fullShare (denC m (pr c)) ∗ whA (F := F) c cc0_stg5_0 (putO 0 (outH m c 0) o))
            -∗ Kt ⟨k0_pay47 (ra0 m c) (ra0 m (pr c)) (rd0 m c) (rd0 m (pr c)), k0_pay49 (ra0 m c) (ra0 m (pr c)) (rd0 m c) (rd0 m (pr c)),
                oM.view.readAt (Elt F) (rowO 1 inb_S8x1x8x64_S8x1x1x64_0_0_1_0).toLoadRect (putO 0 (outH m c 0) o)⟩))
      ⊢ WP (F := F) c (onArgs k0_part15 v2 v6) Kt := by
  unfold onArgs
  simp only [k0_part15_eq_skeleton]; unfold k0_part15_skel
  simp only [semSignalWord, semWaitWord, Prog.lift, Prog.bind_op, Prog.bind_ret, Prog.pure_eq_ret, wp_deviceId]
  iintro ⟨#Hr, Hc5, Hc6, HO, Ha5, Ha6, HA, HD, Ho, Hk⟩
  iapply (step_wait m K c 5 (sem0 cc0_scratch5) rfl aS0 aR0 rfl) $$ [Hc5 HO Ha5]
  · isplitr; · iexact Hr
    isplitl [Hc5]; · iexact Hc5
    isplitl [HO]; · iexact HO
    iexact Ha5
  iintro ⟨HO, Ha5, Hp⟩
  ihave HRA := (Entails.of_eq (show pay m 5 c = ptA c aR0 fullShare (accC m (pr c)) from rfl)) $$ Hp
  iapply (step_wait m K c 6 (sem0 cc0_scratch7) rfl dS0 dR0 rfl) $$ [Hc6 HO Ha6]
  · isplitr; · iexact Hr
    isplitl [Hc6]; · iexact Hc6
    isplitl [HO]; · iexact HO
    iexact Ha6
  iintro ⟨HO, Ha6, Hp⟩
  ihave HRD := (Entails.of_eq (show pay m 6 c = ptD c dR0 fullShare (denC m (pr c)) from rfl)) $$ Hp
  unfold ptA ptD
  iapply (step_load c aS rA0 rA0 (fun _ => rfl) (Finset.Subset.refl _) kept _) $$ HA; iintro HA
  rw [show aS.view.readAt (Elt F) rA0.toLoadRect (accC m c) = ra0 m c from rfl]
  iapply (step_load c aR rA0 rA0 (fun _ => rfl) (Finset.Subset.refl _) fullShare _) $$ HRA; iintro HRA
  rw [show aR.view.readAt (Elt F) rA0.toLoadRect (accC m (pr c)) = ra0 m (pr c) from rfl]
  iapply (step_load c dS rD0 rD0 (fun _ => rfl) (Finset.Subset.refl _) kept _) $$ HD; iintro HD
  rw [show dS.view.readAt (Elt F) rD0.toLoadRect (denC m c) = rd0 m c from rfl]
  iapply (step_load c dR rD0 rD0 (fun _ => rfl) (Finset.Subset.refl _) fullShare _) $$ HRD; iintro HRD
  rw [show dR.view.readAt (Elt F) rD0.toLoadRect (denC m (pr c)) = rd0 m (pr c) from rfl]
  rw [show k0_pay48 (ra0 m c) (ra0 m (pr c)) (rd0 m c) (rd0 m (pr c)) = outH m c 0 from rfl]
  iapply (wp_load 𝒱₀ (c : Thread nD τ) none Set.univ (m := oM) (Finset.subset_univ _)) $$ Ho; iintro Ho
  iapply (step_storeO c 0 _ _ _) $$ Ho; iintro Ho
  iapply (wp_load 𝒱₀ (c : Thread nD τ) none Set.univ (m := oM) (Finset.subset_univ _)) $$ Ho; iintro Ho
  simp only [WP, wp_ret]; imodintro
  iapply Hk
  isplitl [HO]; · iexact HO
  isplitl [Ha5]; · iexact Ha5
  isplitl [Ha6]; · iexact Ha6
  isplitl [HA]; · iexact HA
  isplitl [HD]; · iexact HD
  isplitl [HRA]; · iexact HRA
  isplitl [HRD]; · iexact HRD
  iexact Ho

/-- Heads 1–3 stored; the third landing. -/
theorem part16 {Kt} (v2 v6 : BitVec 32) (x : Vec F S8x1x1x64 .f32) (o : S8x1x8x64.Idx → F .f32) :
    iprop(recs m K ∗ cred (tallyAt (kcell (c, 7)) () (amt 7)) ∗ ows c 0 ∗ atPos EX (kcell (c, 7)) 0 ∅ 0 ∗ whA (F := F) c cc0_stg5_0 o
        ∗ ((ows c 0 ∗ atPos EX (kcell (c, 7)) 1 ∅ 0 ∗ ptA (F := F) c aR4 fullShare (accC m (pr c))
              ∗ whA (F := F) c cc0_stg5_0 (putO 3 (outH m c 3) (putO 2 (outH m c 2) (putO 1 (outH m c 1) o)))) -∗ Kt ⟨⟩))
      ⊢ WP (F := F) c (onArgs k0_part16 v2 v6 (k0_pay47 (ra0 m c) (ra0 m (pr c)) (rd0 m c) (rd0 m (pr c))) (k0_pay49 (ra0 m c) (ra0 m (pr c)) (rd0 m c) (rd0 m (pr c))) x) Kt := by
  unfold onArgs
  simp only [k0_part16_eq_skeleton]; unfold k0_part16_skel
  simp only [semSignalWord, semWaitWord, Prog.lift, Prog.bind_op, Prog.bind_ret, Prog.pure_eq_ret, wp_deviceId]
  rw [show k0_pay50 (k0_pay49 (ra0 m c) (ra0 m (pr c)) (rd0 m c) (rd0 m (pr c))) = outH m c 1 from rfl,
    show k0_pay51 (k0_pay47 (ra0 m c) (ra0 m (pr c)) (rd0 m c) (rd0 m (pr c))) = outH m c 2 from rfl,
    show k0_pay52 (k0_pay47 (ra0 m c) (ra0 m (pr c)) (rd0 m c) (rd0 m (pr c))) = outH m c 3 from rfl]
  iintro ⟨#Hr, Hc7, HO, Ha7, Ho, Hk⟩
  iapply (step_storeO c 1 _ _ _) $$ Ho; iintro Ho
  iapply (wp_load 𝒱₀ (c : Thread nD τ) none Set.univ (m := oM) (Finset.subset_univ _)) $$ Ho; iintro Ho
  iapply (step_storeO c 2 _ _ _) $$ Ho; iintro Ho
  iapply (wp_load 𝒱₀ (c : Thread nD τ) none Set.univ (m := oM) (Finset.subset_univ _)) $$ Ho; iintro Ho
  iapply (step_storeO c 3 _ _ _) $$ Ho; iintro Ho
  iapply (step_wait m K c 7 (sem1 cc0_scratch5) rfl aS4 aR4 rfl) $$ [Hc7 HO Ha7]
  · isplitr; · iexact Hr
    isplitl [Hc7]; · iexact Hc7
    isplitl [HO]; · iexact HO
    iexact Ha7
  iintro ⟨HO, Ha7, Hp⟩
  ihave HRA := (Entails.of_eq (show pay m 7 c = ptA c aR4 fullShare (accC m (pr c)) from rfl)) $$ Hp
  simp only [WP, wp_ret]; imodintro
  iapply Hk
  isplitl [HO]; · iexact HO
  isplitl [Ha7]; · iexact Ha7
  isplitl [HRA]; · iexact HRA
  iexact Ho

/-- The last landing, and heads 4–7 combined: heads 4–6 stored. -/
theorem part17 {Kt} (o : S8x1x8x64.Idx → F .f32) :
    iprop(recs m K ∗ cred (tallyAt (kcell (c, 8)) () (amt 8)) ∗ ows c 0 ∗ atPos EX (kcell (c, 8)) 0 ∅ 0
        ∗ ptA (F := F) c aS4 kept (accC m c) ∗ ptD (F := F) c dS4 kept (denC m c) ∗ ptA (F := F) c aR4 fullShare (accC m (pr c)) ∗ whA (F := F) c cc0_stg5_0 o
        ∗ ((ows c 0 ∗ atPos EX (kcell (c, 8)) 1 ∅ 0
              ∗ ptA (F := F) c aS4 kept (accC m c) ∗ ptD (F := F) c dS4 kept (denC m c)
              ∗ ptA (F := F) c aR4 fullShare (accC m (pr c)) ∗ ptD (F := F) c dR4 fullShare (denC m (pr c))
              ∗ whA (F := F) c cc0_stg5_0 (putO 6 (outH m c 6) (putO 5 (outH m c 5) (putO 4 (outH m c 4) o))))
            -∗ Kt ⟨k0_pay57 (ra4 m c) (ra4 m (pr c)) (rd4 m c) (rd4 m (pr c)),
                oM.view.readAt (Elt F) (rowO 7 inb_S8x1x8x64_S8x1x1x64_0_0_7_0).toLoadRect (putO 6 (outH m c 6) (putO 5 (outH m c 5) (putO 4 (outH m c 4) o)))⟩))
      ⊢ WP (F := F) c (onArgs k0_part17) Kt := by
  unfold onArgs
  simp only [k0_part17_eq_skeleton]; unfold k0_part17_skel
  simp only [semSignalWord, semWaitWord, Prog.lift, Prog.bind_op, Prog.bind_ret, Prog.pure_eq_ret, wp_deviceId]
  iintro ⟨#Hr, Hc8, HO, Ha8, HA, HD, HRA, Ho, Hk⟩
  iapply (step_wait m K c 8 (sem1 cc0_scratch7) rfl dS4 dR4 rfl) $$ [Hc8 HO Ha8]
  · isplitr; · iexact Hr
    isplitl [Hc8]; · iexact Hc8
    isplitl [HO]; · iexact HO
    iexact Ha8
  iintro ⟨HO, Ha8, Hp⟩
  ihave HRD := (Entails.of_eq (show pay m 8 c = ptD c dR4 fullShare (denC m (pr c)) from rfl)) $$ Hp
  unfold ptA ptD
  iapply (step_load c aS rA4 rA4 (fun _ => rfl) (Finset.Subset.refl _) kept _) $$ HA; iintro HA
  rw [show aS.view.readAt (Elt F) rA4.toLoadRect (accC m c) = ra4 m c from rfl]
  iapply (step_load c aR rA4 rA4 (fun _ => rfl) (Finset.Subset.refl _) fullShare _) $$ HRA; iintro HRA
  rw [show aR.view.readAt (Elt F) rA4.toLoadRect (accC m (pr c)) = ra4 m (pr c) from rfl]
  iapply (step_load c dS rD4 rD4 (fun _ => rfl) (Finset.Subset.refl _) kept _) $$ HD; iintro HD
  rw [show dS.view.readAt (Elt F) rD4.toLoadRect (denC m c) = rd4 m c from rfl]
  iapply (step_load c dR rD4 rD4 (fun _ => rfl) (Finset.Subset.refl _) fullShare _) $$ HRD; iintro HRD
  rw [show dR.view.readAt (Elt F) rD4.toLoadRect (denC m (pr c)) = rd4 m (pr c) from rfl]
  rw [show k0_pay54 (ra4 m c) (ra4 m (pr c)) (rd4 m c) (rd4 m (pr c)) = outH m c 4 from rfl, show k0_pay55 (ra4 m c) (ra4 m (pr c)) (rd4 m c) (rd4 m (pr c)) = outH m c 5 from rfl,
    show k0_pay56 (ra4 m c) (ra4 m (pr c)) (rd4 m c) (rd4 m (pr c)) = outH m c 6 from rfl]
  iapply (wp_load 𝒱₀ (c : Thread nD τ) none Set.univ (m := oM) (Finset.subset_univ _)) $$ Ho; iintro Ho
  iapply (step_storeO c 4 _ _ _) $$ Ho; iintro Ho
  iapply (wp_load 𝒱₀ (c : Thread nD τ) none Set.univ (m := oM) (Finset.subset_univ _)) $$ Ho; iintro Ho
  iapply (step_storeO c 5 _ _ _) $$ Ho; iintro Ho
  iapply (wp_load 𝒱₀ (c : Thread nD τ) none Set.univ (m := oM) (Finset.subset_univ _)) $$ Ho; iintro Ho
  iapply (step_storeO c 6 _ _ _) $$ Ho; iintro Ho
  iapply (wp_load 𝒱₀ (c : Thread nD τ) none Set.univ (m := oM) (Finset.subset_univ _)) $$ Ho; iintro Ho
  simp only [WP, wp_ret]; imodintro
  iapply Hk
  isplitl [HO]; · iexact HO
  isplitl [Ha8]; · iexact Ha8
  isplitl [HA]; · iexact HA
  isplitl [HD]; · iexact HD
  isplitl [HRA]; · iexact HRA
  isplitl [HRD]; · iexact HRD
  iexact Ho

end Cert.Paged

end
-- ==== Proof.Body.lean ====
/-
The kernel body on device `c`, from what the launch deals it to what it leaves, and the pipeline's obligation for it.
-/
module

public import proofs.«01_k».proof.Proof.PartsB
public import proofs.«01_k».proof.Proof.Gen.KernelIdeal.Points

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (K : Dev nD × Fin 9 → ℕ) (c : Dev nD)

/-! ## What the body starts from and what it leaves -/

omit [FloatOps F] in
theorem bigSep9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The cell whose duty device `c` pays, for each of the nine: its own send cells, its peer's barrier and receive cells. -/
def paid (ck : Dev nD × Fin 9) : Dev nD × Fin 9 := (if ck.2 = 0 ∨ 5 ≤ ck.2 then pr ck.1 else ck.1, ck.2)

/-- The positions of the nine own cells, and the tokens of the nine duties the device pays. -/
def poss (c : Dev nD) : sProp 𝕄 := bigSep Finset.univ fun k : Fin 9 => atPos EX (kcell (c, k)) 0 ∅ 0
def payToks (c : Dev nD) : sProp 𝕄 := bigSep Finset.univ fun k : Fin 9 => dutyTok EX (kcell (paid (c, k))) 0 ()

/-- The cells that are paid from elsewhere: the launch gives their owner the credit. -/
abbrev fed : Finset (Fin 9) := {0, 5, 6, 7, 8}
def creds (c : Dev nD) : sProp 𝕄 := bigSep fed fun k : Fin 9 => cred (tallyAt (kcell (c, k)) () (amt k))

/-- The four scratch buffers, at any contents. -/
def scratch (c : Dev nD) : sProp 𝕄 :=
  iprop((∃ f, whA (F := F) c cc0_scratch0 f) ∗ (∃ f, whA (F := F) c cc0_scratch1 f) ∗ (∃ f, whA (F := F) c cc0_scratch2 f) ∗ (∃ f, whA (F := F) c cc0_scratch3 f))

/-- What the body's ghost state starts as, -/
def ghost (c : Dev nD) : sProp 𝕄 := iprop(∃ K, recs m K ∗ poss (F := F) c ∗ payToks (F := F) c)
def Φ₀ (c : Dev nD) : sProp 𝕄 := iprop((ghost m c ∗ creds (F := F) c ∗ levAts L lv) ∗ scratch (F := F) c)
/-- and what it ends as: every counter zero again. -/
def Φ₁ (c : Dev nD) : sProp 𝕄 := iprop(scratch (F := F) c ∗ bigSep Finset.univ fun k : Fin 9 => semVal (kcell (c, k)) 0)

omit [FloatOps F] in
theorem payToks_eq : payToks (F := F) c = iprop(dutyTok EX (kcell (pr c, 0)) 0 () ∗ dutyTok EX (kcell (c, 1)) 0 () ∗ dutyTok EX (kcell (c, 2)) 0 () ∗ dutyTok EX (kcell (c, 3)) 0 () ∗ dutyTok EX (kcell (c, 4)) 0 () ∗ dutyTok EX (kcell (pr c, 5)) 0 () ∗ dutyTok EX (kcell (pr c, 6)) 0 () ∗ dutyTok EX (kcell (pr c, 7)) 0 () ∗ dutyTok EX (kcell (pr c, 8)) 0 ()) := by
  unfold payToks; rw [bigSep9]; rfl
omit [FloatOps F] in
theorem creds_eq : creds (F := F) c = iprop(cred (tallyAt (kcell (c, 0)) () (amt 0)) ∗ cred (tallyAt (kcell (c, 5)) () (amt 5)) ∗ cred (tallyAt (kcell (c, 6)) () (amt 6)) ∗ cred (tallyAt (kcell (c, 7)) () (amt 7)) ∗ cred (tallyAt (kcell (c, 8)) () (amt 8))) := by
  unfold creds; rw [bigSep_eq_bigSepL_of_eq [(0 : Fin 9), 5, 6, 7, 8] (by decide) (by decide)]; rfl

def dats (_ : Fin 1) (c : Dev nD) : Dat τ (Elt F) Unit ℕ UU ℕ cfg0 c where
  A w := m ((cfg0.win w).arr.view.loc (c : Thread nD τ))
  after w _ := match w with
    | ⟨0, _⟩ => stQ m c
    | ⟨1, _⟩ => stK m c
    | ⟨2, _⟩ => stV m c
    | ⟨3, _⟩ => stB m c
    | ⟨4, _⟩ => stL m c
    | ⟨5, _⟩ => outC m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-- A staging buffer in full, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d)) ∗ (∃ d, stg c cc0_stg2_0 ((dats m 0 c).before (2 : Fin 6) t0_0 d)) ∗ (∃ d, stg c cc0_stg3_0 ((dats m 0 c).before (3 : Fin 6) t0_0 d)) ∗ (∃ d, stg c cc0_stg4_0 ((dats m 0 c).before (4 : Fin 6) t0_0 d)) ∗ (∃ d, stg c cc0_stg5_0 ((dats m 0 c).before (5 : Fin 6) t0_0 d)))

def bodyPost (c : Dev nD) : sProp 𝕄 :=
  iprop(Φ₁ (F := F) c ∗ (dats m 0 c).owesAt () t0_0.succ
    ∗ stg c cc0_stg0_0 (stQ m c) ∗ stg c cc0_stg1_0 (stK m c) ∗ stg c cc0_stg2_0 (stV m c) ∗ stg c cc0_stg3_0 (stB m c) ∗ stg c cc0_stg4_0 (stL m c) ∗ stg c cc0_stg5_0 (outC m c))

set_option maxHeartbeats 3200000 in
/-- The body, stretch by stretch in program order. -/
theorem sound_body (Kt : PUnit → sProp 𝕄) :
    iprop(bodyPre m c ∗ (bodyPost m c -∗ Kt ⟨⟩)) ⊢ WP (F := F) c (onArgs cc0_body) Kt := by
  unfold onArgs
  simp only [cc0_body_eq_skeleton]; unfold cc0_body_skel
  simp only [k0_part18_eq_skeleton]; unfold k0_part18_skel
  simp only [k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part9_eq_skeleton, k0_part9_skel]
  simp only [Prog.lift, Prog.bind_op, Prog.bind_ret, Prog.pure_eq_ret]
  simp only [WP, wp_bind]
  unfold bodyPre Φ₀ ghost scratch poss
  rw [payToks_eq, creds_eq]
  simp only [bigSep9]
  iintro ⟨⟨⟨⟨⟨%K, #Hr, ⟨Ha0, Ha1, Ha2, Ha3, Ha4, Ha5, Ha6, Ha7, Ha8⟩, ⟨Ht0, Ht1, Ht2, Ht3, Ht4, Ht5, Ht6, Ht7, Ht8⟩⟩, ⟨Hc0, Hc5, Hc6, Hc7, Hc8⟩, #Hlev⟩, ⟨%fa, HaS⟩, ⟨%fr, HaR⟩, ⟨%fd, HdS⟩, ⟨%fe, HdR⟩⟩,
    HO, ⟨%d0, %g0, %hg0, HQ⟩, ⟨%d1, %g1, %hg1, HK⟩, ⟨%d2, %g2, %hg2, HV⟩, ⟨%d3, %g3, %hg3, HB⟩, ⟨%d4, %g4, %hg4, HL⟩, ⟨%d5, %g5, %hg5, Ho⟩⟩, Hk⟩
  have hx0 : g0 = stQ m c := by rw [hg0]; unfold Dat.before; rw [if_pos (fetch0_0 t0_0)]; rfl
  subst hx0
  have hx1 : g1 = stK m c := by rw [hg1]; unfold Dat.before; rw [if_pos (fetch0_1 t0_0)]; rfl
  subst hx1
  have hx2 : g2 = stV m c := by rw [hg2]; unfold Dat.before; rw [if_pos (fetch0_2 t0_0)]; rfl
  subst hx2
  have hx3 : g3 = stB m c := by rw [hg3]; unfold Dat.before; rw [if_pos (fetch0_3 t0_0)]; rfl
  subst hx3
  have hx4 : g4 = stL m c := by rw [hg4]; unfold Dat.before; rw [if_pos (fetch0_4 t0_0)]; rfl
  subst hx4
  unfold Dat.owesAt Pipeline.owesWithin
  icases HO with ⟨%W, %hW, HO⟩
  rw [show (dats m 0 c).owed t0_0.castSucc = O₀ c from rfl]
  ihave HO : ows c (O₀ c) $$ [HO]
  · unfold ows; iexists W; iexact HO
  ihave HaR2 := (halves_aR (F := F) c fr).1 $$ HaR
  icases HaR2 with ⟨HaR0, HaR4⟩
  ihave HdR2 := (halves_dR (F := F) c fe).1 $$ HdR
  icases HdR2 with ⟨HdR0, HdR4⟩
  ihave Hl : landing (F := F) c $$ [HaR0 HdR0 HaR4 HdR4]
  · unfold landing
    isplitl [HaR0]; · iexists fr; iexact HaR0
    isplitl [HdR0]; · iexists fe; iexact HdR0
    isplitl [HaR4]; · iexists fr; iexact HaR4
    iexists fe; iexact HdR4
  ihave HaS2 := (halves_aS (F := F) c fa).1 $$ HaS
  icases HaS2 with ⟨HA0, HA4⟩
  ihave HdS2 := (halves_dS (F := F) c fd).1 $$ HdS
  icases HdS2 with ⟨HD0, HD4⟩
  iapply (part1 m K c)
  isplitr; · iexact Hr
  isplitl [HO]; · iexact HO
  isplitl [Ht0]; · iexact Ht0
  isplitl [Hl]; · iexact Hl
  isplitl [HB]; · iexact HB
  isplitl [HL]; · iexact HL
  iintro ⟨HO, HB, HL⟩
  try dsimp only
  try simp only [wp_bind]
  iapply (part8 m c _ _ _ _ (wgt m c) rfl)
  isplitl [HQ]; · iexact HQ
  iintro HQ
  try dsimp only
  try simp only [wp_bind]
  rw [show k0_pay20 (iota .tc S32x256 32 [0] iota_S32x256_d0_w32) (iota .tc S32x256 32 [1] iota_S32x256_d1_w32) 8#32 k0_pay18 k0_pay19 = bdm from rfl,
    show k0_pay21 (wgt m c) = wt4 m c from rfl, show k0_pay22 (qAll m c) = q0 m c from rfl]
  iapply (part10 m c fa fd)
  isplitl [HK]; · iexact HK
  isplitl [HV]; · iexact HV
  isplitl [HA0]; · iexact HA0
  isplitl [HD0]; · iexact HD0
  iintro ⟨HK, HV, HA0, HD0⟩
  try dsimp only
  try simp only [wp_bind]
  iapply (part11 m K c fa fd _ _ _)
  isplitr; · iexact Hr
  isplitr; · iexact Hlev
  isplitl [HA0]; · iexact HA0
  isplitl [HD0]; · iexact HD0
  isplitl [Hc0]; · iexact Hc0
  isplitl [HO]; · iexact HO
  isplitl [Ha0]; · iexact Ha0
  isplitl [Ht1]; · iexact Ht1
  isplitl [Ht5]; · iexact Ht5
  iintro ⟨HA0, HD0, Ha0, Hd0, Hr4, Hd4, Hc1, HO⟩
  try dsimp only
  try simp only [wp_bind]
  iapply (part12 m K c fa _ _)
  isplitr; · iexact Hr
  isplitl [HD0]; · iexact HD0
  isplitl [Hd0]; · iexact Hd0
  isplitl [HO]; · iexact HO
  isplitl [Ht2]; · iexact Ht2
  isplitl [Ht6]; · iexact Ht6
  isplitl [HK]; · iexact HK
  isplitl [HV]; · iexact HV
  isplitl [HA4]; · iexact HA4
  iintro ⟨HD0, Hc2, HO, HK, HV, HA4⟩
  try dsimp only
  try simp only [wp_bind]
  iapply (part13 m c fa fd _)
  isplitl [HA4]; · iexact HA4
  isplitl [HD4]; · iexact HD4
  iintro ⟨HA4, HD4⟩
  try dsimp only
  try simp only [wp_bind]
  iapply (part14 m K c _ _)
  isplitr; · iexact Hr
  isplitl [HA4]; · iexact HA4
  isplitl [HD4]; · iexact HD4
  isplitl [Hr4]; · iexact Hr4
  isplitl [Hd4]; · iexact Hd4
  isplitl [HO]; · iexact HO
  isplitl [Ht3]; · iexact Ht3
  isplitl [Ht7]; · iexact Ht7
  isplitl [Ht4]; · iexact Ht4
  isplitl [Ht8]; · iexact Ht8
  iintro ⟨HA4, HD4, Hc3, Hc4, HO⟩
  try dsimp only
  try simp only [wp_bind]
  iapply (part15 m K c _ _ g5)
  isplitr; · iexact Hr
  isplitl [Hc5]; · iexact Hc5
  isplitl [Hc6]; · iexact Hc6
  isplitl [HO]; · iexact HO
  isplitl [Ha5]; · iexact Ha5
  isplitl [Ha6]; · iexact Ha6
  isplitl [HA0]; · iexact HA0
  isplitl [HD0]; · iexact HD0
  isplitl [Ho]; · iexact Ho
  iintro ⟨HO, Ha5, Ha6, HA0, HD0, HR0, HE0, Ho⟩
  try dsimp only
  try simp only [wp_bind]
  iapply (part16 m K c _ _ _ _)
  isplitr; · iexact Hr
  isplitl [Hc7]; · iexact Hc7
  isplitl [HO]; · iexact HO
  isplitl [Ha7]; · iexact Ha7
  isplitl [Ho]; · iexact Ho
  iintro ⟨HO, Ha7, HR4, Ho⟩
  try dsimp only
  try simp only [wp_bind]
  iapply (part17 m K c _)
  isplitr; · iexact Hr
  isplitl [Hc8]; · iexact Hc8
  isplitl [HO]; · iexact HO
  isplitl [Ha8]; · iexact Ha8
  isplitl [HA4]; · iexact HA4
  isplitl [HD4]; · iexact HD4
  isplitl [HR4]; · iexact HR4
  isplitl [Ho]; · iexact Ho
  iintro ⟨HO, Ha8, HA4, HD4, HR4, HE4, Ho⟩
  try dsimp only
  try simp only [wp_bind]
  rw [show k0_pay58 (k0_pay57 (ra4 m c) (ra4 m (pr c)) (rd4 m c) (rd4 m (pr c))) = outH m c 7 from rfl]
  iapply (step_storeO c 7 _ _ _) $$ Ho; iintro Ho
  iapply (step_wait m K c 1 (sem0 cc0_scratch4) rfl aR0 aS0 rfl) $$ [Hc1 HO Ha1]
  · isplitr; · iexact Hr
    isplitl [Hc1]; · iexact Hc1
    isplitl [HO]; · iexact HO
    iexact Ha1
  iintro ⟨HO, Ha1, Hp⟩
  ihave HAl0 := (Entails.of_eq (show pay m 1 c = ptA c aS0 lent (accC m c) from rfl)) $$ Hp
  iapply (step_wait m K c 2 (sem0 cc0_scratch6) rfl dR0 dS0 rfl) $$ [Hc2 HO Ha2]
  · isplitr; · iexact Hr
    isplitl [Hc2]; · iexact Hc2
    isplitl [HO]; · iexact HO
    iexact Ha2
  iintro ⟨HO, Ha2, Hp⟩
  ihave HDl0 := (Entails.of_eq (show pay m 2 c = ptD c dS0 lent (denC m c) from rfl)) $$ Hp
  simp only [WP, wp_ret]; imodintro
  iapply (step_wait m K c 3 (sem1 cc0_scratch4) rfl aR4 aS4 rfl) $$ [Hc3 HO Ha3]
  · isplitr; · iexact Hr
    isplitl [Hc3]; · iexact Hc3
    isplitl [HO]; · iexact HO
    iexact Ha3
  iintro ⟨HO, Ha3, Hp⟩
  ihave HAl4 := (Entails.of_eq (show pay m 3 c = ptA c aS4 lent (accC m c) from rfl)) $$ Hp
  iapply (step_wait m K c 4 (sem1 cc0_scratch6) rfl dR4 dS4 rfl) $$ [Hc4 HO Ha4]
  · isplitr; · iexact Hr
    isplitl [Hc4]; · iexact Hc4
    isplitl [HO]; · iexact HO
    iexact Ha4
  iintro ⟨HO, Ha4, Hp⟩
  ihave HDl4 := (Entails.of_eq (show pay m 4 c = ptD c dS4 lent (denC m c) from rfl)) $$ Hp
  imod (step_close m K c 0) $$ [Ha0] with Hz0
  · isplitr; · iexact Hr
    iexact Ha0
  imod (step_close m K c 1) $$ [Ha1] with Hz1
  · isplitr; · iexact Hr
    iexact Ha1
  imod (step_close m K c 2) $$ [Ha2] with Hz2
  · isplitr; · iexact Hr
    iexact Ha2
  imod (step_close m K c 3) $$ [Ha3] with Hz3
  · isplitr; · iexact Hr
    iexact Ha3
  imod (step_close m K c 4) $$ [Ha4] with Hz4
  · isplitr; · iexact Hr
    iexact Ha4
  imod (step_close m K c 5) $$ [Ha5] with Hz5
  · isplitr; · iexact Hr
    iexact Ha5
  imod (step_close m K c 6) $$ [Ha6] with Hz6
  · isplitr; · iexact Hr
    iexact Ha6
  imod (step_close m K c 7) $$ [Ha7] with Hz7
  · isplitr; · iexact Hr
    iexact Ha7
  imod (step_close m K c 8) $$ [Ha8] with Hz8
  · isplitr; · iexact Hr
    iexact Ha8
  simp only [WP, wp_ret]; imodintro
  rw [outs_all]
  ihave HA0 := (shareA (F := F) c aS0 (accC m c)).2 $$ [HAl0 HA0]
  · isplitl [HAl0] <;> iassumption
  ihave HA4 := (shareA (F := F) c aS4 (accC m c)).2 $$ [HAl4 HA4]
  · isplitl [HAl4] <;> iassumption
  ihave HD0 := (shareD (F := F) c dS0 (denC m c)).2 $$ [HDl0 HD0]
  · isplitl [HDl0] <;> iassumption
  ihave HD4 := (shareD (F := F) c dS4 (denC m c)).2 $$ [HDl4 HD4]
  · isplitl [HDl4] <;> iassumption
  ihave HaS := (halves_aS (F := F) c (accC m c)).2 $$ [HA0 HA4]
  · isplitl [HA0] <;> iassumption
  ihave HdS := (halves_dS (F := F) c (denC m c)).2 $$ [HD0 HD4]
  · isplitl [HD0] <;> iassumption
  ihave HaR := (halves_aR (F := F) c (accC m (pr c))).2 $$ [HR0 HR4]
  · isplitl [HR0] <;> iassumption
  ihave HdR := (halves_dR (F := F) c (denC m (pr c))).2 $$ [HE0 HE4]
  · isplitl [HE0] <;> iassumption
  iapply Hk
  unfold bodyPost Φ₁ scratch Dat.owesAt Pipeline.owesWithin ows
  rw [show (dats m 0 c).owed t0_0.succ = 0 from rfl]
  simp only [bigSep9]
  isplitl [HaS HaR HdS HdR Hz0 Hz1 Hz2 Hz3 Hz4 Hz5 Hz6 Hz7 Hz8]
  · isplitl [HaS HaR HdS HdR]
    · isplitl [HaS]; · iexists _; iexact HaS
      isplitl [HaR]; · iexists _; iexact HaR
      isplitl [HdS]; · iexists _; iexact HdS
      iexists _; iexact HdR
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    iexact Hz8
  isplitl [HO]
  · icases HO with ⟨%W', HO⟩
    iexists W'
    isplitr; · ipureintro; exact fun _ _ => Or.inl trivial
    iexact HO
  isplitl [HQ]
  · iexists _; isplitr; · (ipureintro; rfl)
    iexact HQ
  isplitl [HK]
  · iexists _; isplitr; · (ipureintro; rfl)
    iexact HK
  isplitl [HV]
  · iexists _; isplitr; · (ipureintro; rfl)
    iexact HV
  isplitl [HB]
  · iexists _; isplitr; · (ipureintro; rfl)
    iexact HB
  isplitl [HL]
  · iexists _; isplitr; · (ipureintro; rfl)
    iexact HL
  iexists _; isplitr; · (ipureintro; rfl)
  iexact Ho

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 8000 in
/-- The pipeline's obligation for the body. -/
theorem body_obligation (c : Dev nD) : BodyObligation (dats (F := F) m 0 c) (defs₀ (F := F)) 𝒱₀ () Set.univ := fun t => by
  rw [fin_N0 t]
  rw [show ∀ Φ : Fin cfg0.W → sProp 𝕄, bigSep Finset.univ Φ = _ from fun Φ => bigSep_W0 Φ, show ∀ Φ : Fin cfg0.W → sProp 𝕄, bigSep Finset.univ Φ = _ from fun Φ => bigSep_W0 Φ]
  simp only [owns_whole_eq]
  show bodyPre m c ⊢ WP (F := F) c (onArgs cc0_body) (fun _ => bodyPost m c)
  have h := sound_body m c fun _ => bodyPost m c
  iintro H
  iapply h
  isplitl [H]; · iexact H
  iintro H; iexact H

end Cert.Paged

end
-- ==== Proof.Launch.lean ====
/-
The launch: the ghost state dealt to the four devices, and the run of the whole program from any memory with zero
counters, for any float values.
-/
module

public import proofs.«01_k».proof.Proof.Body
public import Idealize.ShloMosaic.Lib.Pipeline.Launch
public import Idealize.ShloMosaic.Lib.Pipeline.CollectiveSegs

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Ghost state at launch -/

/-- The kernel's own eight DMA semaphores. -/
abbrev osem : Fin 8 → SemLoc sig := fun j => csem j.succ

theorem own_facts : Pipeline.OwnSemFacts cfg0.spec osem := by decide

theorem share_full (c : Dev nD) (w : Fin cfg0.W) : (dats m 0 c).share w = fullShare := by unfold Dat.share; split <;> rfl

theorem kcell_inj : Function.Injective (kcell : Dev nD × Fin 9 → GSem nD τ sig) := by
  rintro ⟨c, k⟩ ⟨c', k'⟩ h
  exact Prod.ext (show c = c' from congrArg (fun g : GSem nD τ sig => g.1.1) h) (csem_inj (congrArg Prod.snd h))

theorem duty_inj : Function.Injective (fun ck : Dev nD × Fin 9 => ((kcell ck, 0, ()) : GSem nD τ sig × ℕ × Unit)) :=
  fun _ _ h => kcell_inj (congrArg Prod.fst h)

/-- All cells, and one duty token of each. -/
def allCells : Finset (GSem nD τ sig) := Finset.univ.map ⟨kcell, kcell_inj⟩
def allToks : Finset (GSem nD τ sig × ℕ × Unit) := Finset.univ.map ⟨_, duty_inj⟩

def u₀ : UU :=
  (initOf (Pipeline.cells cfgs cellOf_inj) (Pipeline.launchToks cfgs cellOf_inj), initOf allCells allToks)

/-- A family over the nine cells of device `c`. -/
abbrev nine (c : Dev nD) (Φ : GSem nD τ sig → sProp 𝕄) : sProp 𝕄 := bigSep Finset.univ fun k : Fin 9 => Φ (kcell (c, k))

/-- What the launch element deals device `c`. -/
def dealt (c : Dev nD) : sProp 𝕄 :=
  iprop(nine c (fun g => roundState EX (sched m) g 0) ∗ nine c (fun g => atPos EX g 0 ∅ 0) ∗ nine c (fun g => reached EX g 0) ∗ nine c (fun g => dutyTok EX g 0 ()))

theorem fund_all : BI.own (EX (initOf allCells allToks)) ⊢ (|==> bigSep Finset.univ (dealt m) : sProp 𝕄) := by
  have hX (Φ : GSem nD τ sig → sProp 𝕄) : bigSep allCells Φ = bigSep Finset.univ fun c : Dev nD => nine c Φ := by
    unfold allCells; rw [bigSep_map, bigSep_univ_prod]; rfl
  have hT : bigSep allToks (fun x => (dutyTok EX x.1 x.2.1 x.2.2 : sProp 𝕄)) = bigSep Finset.univ fun c : Dev nD => nine c (fun g => dutyTok EX g 0 ()) := by
    unfold allToks; rw [bigSep_map, bigSep_univ_prod]; rfl
  iintro HX
  imod (Rounds.fund EX (sched m) allCells allToks) $$ HX with ⟨Hst, Hr, Hat, Htok⟩
  imodintro
  ihave Hst := (Entails.of_eq (hX fun g => roundState EX (sched m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold dealt; simp only [bigSep_sep']
  isplitl [Hst]; · iexact Hst
  isplitl [Hat]; · iexact Hat
  isplitl [Hr]; · iexact Hr
  iexact Htok

omit [FloatOps F] in
theorem own_sems (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0) := by
  rw [Pipeline.ownSems0_eq_of_list c osem [0, 1, 2, 3, 4, 5, 6, 7] (by decide) (by decide)]; rfl
omit [FloatOps F] in
theorem bar_sem (c : Dev nD) : (unscopedSems0 c : sProp 𝕄) = semVal (kcell (c, 0)) 0 := by
  unfold unscopedSems0; rw [bigSep_eq_bigSepL_of_eq [SemLoc.reg barS] (by decide) (by decide)]; rfl

omit [FloatOps F] in
/-- The counters at zero, own and unscoped, are the nine cells'. -/
theorem sems_nine (c : Dev nD) :
    iprop(unscopedSems0 c ∗ Pipeline.ownSems0 (Ix := Unit) (Name := ℕ) (U := UU) (Lvl := ℕ) (Val := Elt F) (τ := τ) osem c)
      = (nine c (fun g => semVal g 0) : sProp 𝕄) := by
  rw [own_sems, bar_sem]; unfold nine; rw [bigSep9]

/-- Every cell's invariant allocated on device `c`. -/
theorem alloc_core (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Fin 9 => iprop(∃ κ : ℕ, cellInv EX (sched m) κ (kcell (c, k))))
          ∗ nine c (fun g => atPos EX g 0 ∅ 0) ∗ nine c (fun g => reached EX g 0) ∗ nine c (fun g => dutyTok EX g 0 ())) := by
  unfold dealt
  iintro ⟨Hos, Hus, Hst, Hat, Hr, Htok⟩
  ihave Hv := (Entails.of_eq (sems_nine (F := F) c)) $$ [Hos Hus]
  · isplitl [Hus] <;> iassumption
  have halloc : iprop(nine c (fun g => semVal g 0) ∗ nine c (fun g => roundState EX (sched m) g 0))
      ⊢ (|={Set.univ}=> bigSep Finset.univ fun k : Fin 9 => iprop(∃ κ : ℕ, cellInv EX (sched m) κ (kcell (c, k))) : sProp 𝕄) := by
    unfold nine
    rw [← bigSep_sep']
    exact (bigSep_mono fun k _ => (Rounds.body_intro EX (sched m) (kcell (c, k))).trans inv_alloc).trans (bigSep_fupd _ _)
  imod halloc $$ [Hv Hst] with Hinv
  · isplitl [Hv] <;> iassumption
  imodintro
  isplitl [Hinv]; · iexact Hinv
  isplitl [Hat]; · iexact Hat
  isplitl [Hr]; · iexact Hr
  iexact Htok

theorem paid_paid (ck : Dev nD × Fin 9) : paid (paid ck) = ck := by
  unfold paid
  refine Prod.ext ?_ rfl
  dsimp only
  split
  · exact pr_pr _
  · rfl

/-- From the owner of a cell to the payer of its duty, as a renaming. -/
def toPayer : Dev nD × Fin 9 ≃ Dev nD × Fin 9 := ⟨paid, paid, paid_paid, paid_paid⟩

omit [FloatOps F] in
/-- Every token goes to the device that pays its duty. -/
theorem toks_dealt : (bigSep Finset.univ fun c : Dev nD => (nine c (fun g => dutyTok EX g 0 ()) : sProp 𝕄)) = bigSep Finset.univ fun c : Dev nD => payToks (F := F) c := by
  unfold nine payToks
  rw [← bigSep_univ_prod (fun ck : Dev nD × Fin 9 => (dutyTok EX (kcell ck) 0 () : sProp 𝕄)), bigSep_univ_equiv toPayer (fun ck : Dev nD × Fin 9 => (dutyTok EX (kcell ck) 0 () : sProp 𝕄)), bigSep_univ_prod]
  rfl

theorem ghost_intro (K : Dev nD × Fin 9 → ℕ) (c : Dev nD) : iprop(recs m K ∗ poss (F := F) c ∗ payToks (F := F) c) ⊢ ghost m c := by
  unfold ghost
  iintro ⟨Hr, Hp, Ht⟩
  iexists K
  isplitl [Hr]; · iexact Hr
  isplitl [Hp]; · iexact Hp
  iexact Ht

/-- What every device holds beside the shared records makes its ghost state. -/
theorem ghosts (K : Dev nD × Fin 9 → ℕ) :
    iprop(recs m K ∗ bigSep Finset.univ fun c : Dev nD => iprop(poss (F := F) c ∗ payToks (F := F) c)) ⊢ (bigSep Finset.univ (ghost m) : sProp 𝕄) := by
  refine (sep_mono_left (BI.bigSep_of_persistent (Finset.univ : Finset (Dev nD)) (recs m K))).trans ?_
  rw [← bigSep_sep']
  exact bigSep_mono fun c _ => ghost_intro m K c

/-- All devices' allocated cells are every device's ghost state. -/
theorem regroup_all : (bigSep Finset.univ fun c : Dev nD => iprop((bigSep Finset.univ fun k : Fin 9 => iprop(∃ κ : ℕ, cellInv EX (sched m) κ (kcell (c, k))))
          ∗ nine c (fun g => atPos EX g 0 ∅ 0) ∗ nine c (fun g => reached EX g 0) ∗ nine c (fun g => dutyTok EX g 0 ())) : sProp 𝕄)
    ⊢ bigSep Finset.univ (ghost m) := by
  rw [bigSep_sep', bigSep_sep', bigSep_sep', toks_dealt, ← bigSep_univ_prod (fun ck : Dev nD × Fin 9 => iprop(∃ κ : ℕ, cellInv EX (sched m) κ (kcell ck)))]
  iintro ⟨HI, Hat, Hr, Htok⟩
  ihave HK := (BI.bigSep_exists_pi Finset.univ (fun (ck : Dev nD × Fin 9) (κ : ℕ) => (cellInv EX (sched m) κ (kcell ck) : sProp 𝕄))) $$ HI
  icases HK with ⟨%K, HI⟩
  ihave Hr := (Entails.of_eq (bigSep_univ_prod (fun ck : Dev nD × Fin 9 => (reached EX (kcell ck) 0 : sProp 𝕄))).symm) $$ Hr
  iapply (ghosts m K)
  isplitl [HI Hr]
  · unfold recs; isplitl [HI] <;> iassumption
  iapply (Entails.of_eq (bigSep_sep' Finset.univ (fun c : Dev nD => poss (F := F) c) payToks).symm)
  isplitl [Hat]; · unfold poss; iexact Hat
  iexact Htok

/-- The global step: all devices' cells at once. -/
theorem alloc_all : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ghost m) := by
  exact ((bigSep_mono fun c _ => alloc_core m c).trans (bigSep_fupd _ _)).trans (BI.fupd_mono (regroup_all m))

/-! ## The launch credit -/

theorem ow_at (d c : Dev nD) (j k : Fin 9) : ow d j (kcell (c, k)) () = if d = pr c ∧ j = k then amt k else 0 := by
  rw [tallyAt_apply]
  by_cases h : d = pr c ∧ j = k
  · obtain ⟨rfl, rfl⟩ := h
    rw [pr_pr, if_pos ⟨rfl, rfl⟩, if_pos ⟨rfl, rfl⟩]
  · rw [if_neg h, if_neg]
    rintro ⟨h', -⟩
    have e := kcell_inj h'
    have e1 : c = pr d := congrArg Prod.fst e
    exact h ⟨by rw [e1, pr_pr], (congrArg Prod.snd e).symm⟩

/-- What device `d` owes a fed cell of device `c`: the peer, its units. -/
theorem owed_at (d c : Dev nD) (k : Fin 9) (hk : k ∈ fed) : O₀ d (kcell (c, k)) () = if d = pr c then amt k else 0 := by
  unfold O₀ O5 O6 O7 O8
  simp only [Pi.add_apply, Finsupp.add_apply, Pi.zero_apply, Finsupp.coe_zero, zero_add, ow_at]
  by_cases h : d = pr c
  · simp only [h, true_and, if_true]
    fin_cases hk <;> simp
  · simp [h]

theorem launch_at (c : Dev nD) (k : Fin 9) (hk : k ∈ fed) :
    tallyOn (kcell (c, k)) (launchCredit (Pipeline.owing O₀) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same, Finset.sum_congr rfl fun d _ => owed_at d c k hk,
    Finset.sum_ite_eq' Finset.univ (pr c) fun _ => amt k, if_pos (Finset.mem_univ _)]

omit [FloatOps F] in
theorem launch_creds (c : Dev nD) : (Pipeline.launchCred O₀ c : sProp 𝕄) ⊢ creds (F := F) c := by
  unfold Pipeline.launchCred creds
  refine (bigSep_subset (Finset.subset_univ (fed.map ⟨csem, csem_inj⟩))).trans ?_
  rw [bigSep_map]
  exact bigSep_mono fun k hk => show (cred (tallyOn (kcell (c, k)) (launchCredit (Pipeline.owing O₀) 0 (kcell (c, k)))) : sProp 𝕄) ⊢ cred (tallyAt (kcell (c, k)) () (amt k)) by
    rw [launch_at c k hk]

/-! ## The run -/

/-- What a device holds when its kernel starts, beside the buffers. -/
def start (c : Dev nD) : sProp 𝕄 := iprop(ghost m c ∗ creds (F := F) c ∗ levAts L lv)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (launch_creds (F := F) c) $$ Hcr
  imodintro
  unfold start
  isplitl
  · isplitl [HG]; · iexact HG
    isplitl [Hc]; · iexact Hc
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start scratch
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scopedRest0_eq]
  unfold Φ₁ scratch
  iintro ⟨Hr, Hz⟩
  ihave Hz := (Entails.of_eq (sems_nine (F := F) c).symm) $$ Hz
  icases Hz with ⟨Hu, Ho⟩
  isplitl [Hu]; · iexact Hu
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (dif_neg (by fin_cases w <;> fin_cases s <;> decide)) _ (by
      rcases t with ⟨_ | _, ht⟩
      · exact Or.inl rfl
      · exact Or.inr rfl)

/-- The contents of a window's array after the run. -/
def finalA (c : Dev nD) (w : Fin cfg0.W) : Buf (Elt F) ((cfg0.win w).arr.view.loc (c : Thread nD τ)) := (dats m 0 c).arrAt w cfg0.N

set_option maxRecDepth 8000 in
/-- From any memory with zero counters, for any float values: every weakly fair execution of the program on the four
    devices terminates, and at the end every array holds what the kernel computes of it and every counter is zero. -/
theorem run_main : θ_run defs (onTc (τ := τ) (main (F := F))) (s₀ m ρ)
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := dealt m) (G' := ghost m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := alloc_all m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Paged

end
-- ==== Proof.Ends.lean ====
/-
What the arrays hold after the run: the arguments what they held, the result what `outC` says; and the staged operands
are the whole argument arrays.
-/
module

public import proofs.«01_k».proof.Proof.Launch

@[expose] public section

noncomputable section

namespace Cert.Paged

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-! ## The staged operands: every window is its whole array -/

theorem emb0 (t : Fin 1) (i : S8x1x8x64.Idx) : (win0_0.rect t).emb i = i :=
  funext fun a => Fin.ext (Pipeline.Window.rect_emb_val_of_index_zero win0_0 t a (by fin_cases a <;> rfl) i)
theorem emb1 (t : Fin 1) (i : S64x16x8x64.Idx) : (win0_1.rect t).emb i = i :=
  funext fun a => Fin.ext (Pipeline.Window.rect_emb_val_of_index_zero win0_1 t a (by fin_cases a <;> rfl) i)
theorem emb2 (t : Fin 1) (i : S64x16x8x64.Idx) : (win0_2.rect t).emb i = i :=
  funext fun a => Fin.ext (Pipeline.Window.rect_emb_val_of_index_zero win0_2 t a (by fin_cases a <;> rfl) i)
theorem emb3 (t : Fin 1) (i : S8x64.Idx) : (win0_3.rect t).emb i = i :=
  funext fun a => Fin.ext (Pipeline.Window.rect_emb_val_of_index_zero win0_3 t a (by fin_cases a <;> rfl) i)
theorem emb4 (t : Fin 1) (i : S8.Idx) : (win0_4.rect t).emb i = i :=
  funext fun a => Fin.ext (Pipeline.Window.rect_emb_val_of_index_zero win0_4 t a (by fin_cases a <;> rfl) i)
theorem emb5 (t : Fin 1) (i : S8x1x8x64.Idx) : (win0_5.rect t).emb i = i :=
  funext fun a => Fin.ext (Pipeline.Window.rect_emb_val_of_index_zero win0_5 t a (by fin_cases a <;> rfl) i)

theorem stQ_eq (c : Dev nD) : stQ m c = m ((c : Thread nD τ).loc main_arg0) :=
  funext fun i => congrArg (m ((c : Thread nD τ).loc main_arg0)) (emb0 0 i)
theorem stK_eq (c : Dev nD) : stK m c = m ((c : Thread nD τ).loc main_arg1) :=
  funext fun i => congrArg (m ((c : Thread nD τ).loc main_arg1)) (emb1 0 i)
theorem stV_eq (c : Dev nD) : stV m c = m ((c : Thread nD τ).loc main_arg2) :=
  funext fun i => congrArg (m ((c : Thread nD τ).loc main_arg2)) (emb2 0 i)
theorem stB_eq (c : Dev nD) : stB m c = m ((c : Thread nD τ).loc main_arg3) :=
  funext fun i => congrArg (m ((c : Thread nD τ).loc main_arg3)) (emb3 0 i)
theorem stL_eq (c : Dev nD) : stL m c = m ((c : Thread nD τ).loc main_arg4) :=
  funext fun i => congrArg (m ((c : Thread nD τ).loc main_arg4)) (emb4 0 i)

/-! ## The arrays after the run -/

theorem final_in (c : Dev nD) (w : Fin 6) (h : (cfg0.win w).isOut = false) :
    finalA m c w = m ((cfg0.win w).arr.view.loc (c : Thread nD τ)) := (dats m 0 c).arrAt_in w h _

theorem final_out (c : Dev nD) : finalA m c (5 : Fin 6) = outC m c := by
  refine (dats m 0 c).arrAt_eq_of_cover (5 : Fin 6) (outC m c) (fun t _ => ?_) fun i => ⟨(0 : Fin 1), flush0_5 _, ?_⟩
  · exact funext fun i => (congrArg (outC m c) (emb5 t i)).symm
  · have h := (win0_5.blk (0 : Fin 1)).view.emb_mem_set i
    rwa [show (win0_5.blk (0 : Fin 1)).view.emb i = i from emb5 0 i] at h

/-- The run with its end spelt out: every device's arguments are what they were, its result is `outC`, and every counter
    is zero. -/
theorem run_ends : θ_run defs (onTc (τ := τ) (main (F := F))) ⟨m, fun _ => 0, ρ⟩
    (fun r => (∀ c : Dev nD,
        r.2.mem ((c.tc : Thread nD τ).loc main_v1) = outC m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run defs _ _).mono (fun _ h => ⟨fun c =>
    ⟨(h.1 c 5).trans (final_out m c), (h.1 c 0).trans (final_in m c 0 rfl), (h.1 c 1).trans (final_in m c 1 rfl),
      (h.1 c 2).trans (final_in m c 2 rfl), (h.1 c 3).trans (final_in m c 3 rfl), (h.1 c 4).trans (final_in m c 4 rfl)⟩, h.2⟩)
    (run_main m ρ)

end Cert.Paged

end
-- ==== Proof.Equation.lean ====
/-
The equation of extended reals the claim comes down to.

One row and one head: `live j` says that slot `j` of the row's table is in use and `pg j` is the page it names; `s P t` is
the score of key `t` of page `P` and `v P t` one coordinate of its value. The kernel counts, page by page, the slots that
name it, and sums over the pages of the two shards; the reference sums over the slots, after taking the greatest score
off every score. Both give the same quotient.
-/
module

public import Idealize.ShloMosaic.Lib.Pointwise

@[expose] public section

noncomputable section

namespace Cert.Paged

open Idealize.ShloMosaic

/-- Key `k` of a shard, or of a row's slots, is key `keyT k` of page, or slot, `keyP k`. -/
abbrev keyP (k : Fin 1024) : Fin 64 := ⟨k.val / 16, by have := k.isLt; omega⟩
abbrev keyT (k : Fin 1024) : Fin 16 := ⟨k.val % 16, by omega⟩

/-- Page `p` of shard `y` among all the pages. -/
abbrev pageOf (y : Fin 2) (p : Fin 64) : Fin 128 := ⟨64 * y.val + p.val, by have := y.isLt; have := p.isLt; omega⟩

/-! ## Sums of extended reals -/

theorem coe_sum {ι : Type} (A : Finset ι) (f : ι → ℝ) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-- A count times a number: the number once for each thing counted. -/
theorem count_mul {ι : Type} (A : Finset ι) (p : ι → Prop) [DecidablePred p] (x : EReal) :
    (∑ i ∈ A, if p i then (1 : EReal) else 0) * x = ∑ i ∈ A, if p i then x else 0 := by
  classical
  induction A using Finset.induction_on with
  | empty => simp
  | insert a A ha ih =>
    rw [Finset.sum_insert ha, Finset.sum_insert ha, EReal.right_distrib_of_nonneg, ih]
    · split <;> simp
    · split <;> simp
    · exact Finset.sum_nonneg fun i _ => by split <;> simp

/-- A real factor that is not negative goes into a sum. -/
theorem sum_mul_real {ι : Type} (A : Finset ι) (f : ι → EReal) (c : ℝ) (hc : 0 ≤ c) :
    (∑ i ∈ A, f i) * (c : EReal) = ∑ i ∈ A, f i * (c : EReal) := by
  classical
  induction A using Finset.induction_on with
  | empty => simp
  | insert a A ha ih =>
    rw [Finset.sum_insert ha, Finset.sum_insert ha,
      EReal.right_distrib_of_nonneg_of_ne_top (EReal.coe_nonneg.2 hc) (EReal.coe_ne_top c), ih]

/-- The words of the two infinities and of an eighth. -/
theorem ofBits_bot : Ideal.ofBits FTy.f32 0xFF800000#32 = ⊥ := by simp [Ideal.ofBits, Ideal.ieee]
theorem ofBits_top : Ideal.ofBits FTy.f32 0x7F800000#32 = ⊤ := by simp [Ideal.ofBits, Ideal.ieee]
theorem ofBits_eighth : Ideal.ofBits FTy.f32 0x3E000000#32 = ((1 / 8 : ℝ) : EReal) := by
  simp [Ideal.ofBits, Ideal.ieee, -EReal.coe_mul]
  norm_num

/-- A sum over `a * b` numbers, quotient by quotient. -/
theorem sum_split (a b : ℕ) (f : Fin a → Fin b → EReal) : ∑ k : Fin (a * b), f k.divNat k.modNat = ∑ i, ∑ j, f i j :=
  (Fintype.sum_equiv finProdFinEquiv.symm _ (fun x => f x.1 x.2) fun _ => rfl).trans (Fintype.sum_prod_type _)

/-- The keys, page by page. -/
theorem sum_keys (f : Fin 64 → Fin 16 → EReal) : ∑ k : Fin 1024, f (keyP k) (keyT k) = ∑ p, ∑ t, f p t := sum_split 64 16 f

/-- The pages of the two shards are all the pages. -/
theorem sum_shards (f : Fin 128 → EReal) : (∑ p, f (pageOf 0 p)) + ∑ p, f (pageOf 1 p) = ∑ P, f P := by
  rw [show (∑ P, f P) = ∑ P : Fin (64 + 64), f P from rfl, Fin.sum_univ_add]
  refine congrArg₂ (· + ·) (Finset.sum_congr rfl fun p _ => congrArg f (Fin.ext ?_))
    (Finset.sum_congr rfl fun p _ => congrArg f (Fin.ext ?_))
  · show 64 * 0 + p.val = p.val; omega
  · show 64 * 1 + p.val = 64 + p.val; omega

variable (live : Fin 64 → Prop) [DecidablePred live] (pg : Fin 64 → Fin 128)

/-- How many slots in use name page `P`. -/
def countOf (P : Fin 128) : EReal := ∑ j, if live j ∧ pg j = P then 1 else 0

/-- The sum over one shard's keys, each as many times as slots name its page. -/
def shardSum (f : Fin 128 → Fin 16 → EReal) (y : Fin 2) : EReal :=
  ∑ k : Fin 1024, countOf live pg (pageOf y (keyP k)) * f (pageOf y (keyP k)) (keyT k)

/-- The sum over the keys of the slots in use. -/
def slotSum (f : Fin 128 → Fin 16 → EReal) : EReal :=
  ∑ k : Fin 1024, if live (keyP k) then f (pg (keyP k)) (keyT k) else 0

theorem shardSum_pages (f : Fin 128 → Fin 16 → EReal) (y : Fin 2) :
    shardSum live pg f y = ∑ p, ∑ t, countOf live pg (pageOf y p) * f (pageOf y p) t :=
  sum_keys fun p t => countOf live pg (pageOf y p) * f (pageOf y p) t

/-- The two shards' sums together are the sum over the slots in use. -/
theorem shardSum_add (f : Fin 128 → Fin 16 → EReal) :
    shardSum live pg f 0 + shardSum live pg f 1 = slotSum live pg f := by
  rw [shardSum_pages, shardSum_pages, sum_shards fun P => ∑ t, countOf live pg P * f P t, slotSum,
    sum_keys fun j t => if live j then f (pg j) t else 0]
  have h (P : Fin 128) : ∑ t, countOf live pg P * f P t = ∑ j, if live j ∧ pg j = P then ∑ t, f P t else 0 := by
    simp only [countOf, count_mul]
    rw [Finset.sum_comm]
    exact Finset.sum_congr rfl fun j _ => by split <;> simp
  simp only [h]
  rw [Finset.sum_comm]
  refine Finset.sum_congr rfl fun j _ => ?_
  by_cases hj : live j
  · simp [hj]
  · simp [hj]

/-- The same whichever shard is one's own. -/
theorem shardSum_pair (f : Fin 128 → Fin 16 → EReal) (y y' : Fin 2) (h : y ≠ y') :
    shardSum live pg f y + shardSum live pg f y' = slotSum live pg f := by
  have hc : (y = 0 ∧ y' = 1) ∨ (y = 1 ∧ y' = 0) := by revert y y'; decide
  rcases hc with ⟨rfl, rfl⟩ | ⟨rfl, rfl⟩
  · exact shardSum_add live pg f
  · rw [add_comm]; exact shardSum_add live pg f

/-! ## The quotient -/

section Quotient

variable (s : Fin 128 → Fin 16 → EReal) (v : Fin 128 → Fin 16 → EReal)

/-- The reference's score of a slot's key: that of the key of the page the slot names, least of all where the slot is not
in use. -/
def slotScore (k : Fin 1024) : EReal := if live (keyP k) then s (pg (keyP k)) (keyT k) else ⊥

/-- The reference's quotient: the scores' exponentials, the greatest score taken off, over their sum. -/
def softmaxDot : EReal :=
  ∑ k : Fin 1024, v (pg (keyP k)) (keyT k)
    * Ideal.div (Ideal.exp (slotScore live pg s k - Finset.fold max ⊥ (slotScore live pg s) Finset.univ))
        (∑ k' : Fin 1024, Ideal.exp (slotScore live pg s k' - Finset.fold max ⊥ (slotScore live pg s) Finset.univ))

theorem fold_max_real (f : Fin 1024 → EReal) (ht : ∀ k, f k ≠ ⊤) (hb : f 0 ≠ ⊥) :
    ∃ μ : ℝ, Finset.fold max ⊥ f Finset.univ = (μ : EReal) := by
  have e : Finset.fold max ⊥ f Finset.univ = Finset.univ.sup f := rfl
  rw [e]
  have h1 : Finset.univ.sup f ≠ ⊤ :=
    ((Finset.sup_lt_iff (bot_lt_top)).2 fun k _ => lt_top_iff_ne_top.2 (ht k)).ne
  have h2 : Finset.univ.sup f ≠ ⊥ := fun h =>
    hb (le_bot_iff.1 (h ▸ Finset.le_sup (f := f) (Finset.mem_univ 0)))
  exact ⟨_, (EReal.coe_toReal h1 h2).symm⟩

theorem softmaxDot_eq (r : Fin 128 → Fin 16 → ℝ) (hr : ∀ j, live j → ∀ t, s (pg j) t = (r (pg j) t : EReal)) (h0 : live 0) :
    Ideal.div (slotSum live pg fun P t => Ideal.exp (s P t) * v P t) (slotSum live pg fun P t => Ideal.exp (s P t))
      = softmaxDot live pg s v := by
  obtain ⟨μ, hμ⟩ := fold_max_real (slotScore live pg s)
    (fun k => by
      unfold slotScore; split
      · rename_i hk; rw [hr _ hk]; exact EReal.coe_ne_top _
      · exact bot_ne_top)
    (by
      have hk : live (keyP 0) := h0
      unfold slotScore; rw [if_pos hk, hr _ hk]; exact EReal.coe_ne_bot _)
  -- the exponential of a slot's key, and the sum
  let e : Fin 1024 → ℝ := fun k => if live (keyP k) then Real.exp (r (pg (keyP k)) (keyT k)) else 0
  have he0 (k) : 0 ≤ e k := by dsimp only [e]; split <;> positivity
  have hD : 0 < ∑ k, e k := by
    refine Finset.sum_pos' (fun k _ => he0 k) ⟨0, Finset.mem_univ _, ?_⟩
    have hk : live (keyP 0) := h0
    dsimp only [e]; rw [if_pos hk]; positivity
  have hE (k) : Ideal.exp (slotScore live pg s k - (μ : EReal)) = ((e k * Real.exp (-μ) : ℝ) : EReal) := by
    dsimp only [e]; unfold slotScore; split
    · rename_i hk
      rw [hr _ hk, ← EReal.coe_sub, ← Real.exp_add, ← sub_eq_add_neg]; rfl
    · rw [zero_mul, EReal.bot_sub]; rfl
  have hden : slotSum live pg (fun P t => Ideal.exp (s P t)) = ((∑ k, e k : ℝ) : EReal) := by
    rw [coe_sum]
    refine Finset.sum_congr rfl fun k _ => ?_
    dsimp only [e]; split
    · rename_i hk; rw [hr _ hk]; rfl
    · rfl
  have hdiv (x : EReal) (y : ℝ) (hy : 0 < y) : Ideal.div x (y : EReal) = x * ((y⁻¹ : ℝ) : EReal) := by
    unfold Ideal.div
    rw [if_neg (by exact_mod_cast hy.ne'), EReal.coe_inv]
  unfold softmaxDot
  simp only [hμ, hE]
  rw [hden, hdiv _ _ hD, ← coe_sum, ← Finset.sum_mul, slotSum, sum_mul_real _ _ _ (inv_nonneg.2 hD.le)]
  refine Finset.sum_congr rfl fun k _ => ?_
  rw [hdiv _ _ (mul_pos hD (Real.exp_pos _)), ← EReal.coe_mul]
  have hc : e k * Real.exp (-μ) * ((∑ k, e k) * Real.exp (-μ))⁻¹ = e k * (∑ k, e k)⁻¹ := by
    have := (Real.exp_pos (-μ)).ne'
    field_simp
  rw [hc, EReal.coe_mul, ← mul_assoc]
  refine congrArg (· * _) ?_
  dsimp only [e]; split
  · rename_i hk; rw [hr _ hk, mul_comm]; rfl
  · rw [EReal.coe_zero, mul_zero]

end Quotient

end Cert.Paged
-- ==== Proof.Counts.lean ====
/-
The weight of a key on a device: how many slots of the row name the key's page there.
-/
module

public import proofs.«01_k».proof.Proof.Ends
public import proofs.«01_k».proof.Proof.Equation

@[expose] public section

set_option maxRecDepth 16384

noncomputable section

namespace Cert.Paged

open Cert.KernelIdeal Cert.KernelIdeal.Gen

open Idealize.ShloMosaic
open Idealize.ShloMosaic.TcCoe
open Idealize.SL.Sem

variable (m : (ℓ : Loc nD τ sig) → Buf (Elt Ideal) ℓ) (c : Dev nD)

/-! ## Words -/

/-- A comparison for equality, widened and taken for a number, is one where the words are equal and zero elsewhere. -/
theorem eqNumber (x y : BitVec 32) :
    (FloatOps.sitofp (F := Ideal) FTy.f32 (BitVec.setWidth 32 (IntOp.cmpi CmpIPredicate.eq x y)) : EReal) = if x = y then 1 else 0 := by
  show ((((BitVec.setWidth 32 (IntOp.cmpi CmpIPredicate.eq x y)).toInt : ℤ) : ℝ) : EReal) = _
  by_cases h : x = y
  · rw [if_pos h, show IntOp.cmpi CmpIPredicate.eq x y = 1#1 by simp [IntOp.cmpi, h]]; norm_num
  · rw [if_neg h, show IntOp.cmpi CmpIPredicate.eq x y = 0#1 by simp only [IntOp.cmpi, beq_eq_false_iff_ne.2 h]; rfl]; norm_num

/-- The quotient of a nonnegative word, written with the correction that rounds down. -/
theorem floor16 (k : Fin 1024) :
    Scalar.select
        (IntOp.andi
          (IntOp.cmpi CmpIPredicate.ne
            (IntOp.subi (BitVec.setWidth 32 (IntOp.cmpi CmpIPredicate.sgt (BitVec.ofNat 32 k.val) 0#32))
              (BitVec.setWidth 32 (IntOp.cmpi CmpIPredicate.slt (BitVec.ofNat 32 k.val) 0#32)))
            (Scalar.subi (Scalar.extui (Scalar.cmpi CmpIPredicate.sgt 16#32 0#32))
              (Scalar.extui (Scalar.cmpi CmpIPredicate.slt 16#32 0#32))))
          (IntOp.cmpi CmpIPredicate.ne (IntOp.remsi ArithUnit.vector (BitVec.ofNat 32 k.val) 16#32) 0#32))
        (IntOp.subi (IntOp.divsi ArithUnit.vector (BitVec.ofNat 32 k.val) 16#32) 1#32)
        (IntOp.divsi ArithUnit.vector (BitVec.ofNat 32 k.val) 16#32)
      = BitVec.ofNat 32 (k.val / 16) := by
  revert k; decide +kernel

theorem ofNat_inj64 (a b : Fin 64) : BitVec.ofNat 32 a.val = BitVec.ofNat 32 b.val ↔ a = b := by
  revert a b; decide +kernel

/-! ## The counts -/

/-- Whether slot `j` of row `b` names page `p`, as a number. -/
def named (w : IVec S8x64 32) (b : Fin 8) (p : Fin 64) (j : Fin 64) : EReal := if w (ix2 b j) = BitVec.ofNat 32 p.val then 1 else 0

/-- The same, the slot a natural number. -/
def nth (w : IVec S8x64 32) (b : Fin 8) (p : Fin 64) (j : ℕ) : EReal := named w b p (Fin.ofNat 64 j)

/-- Each of the five middle parts adds its ten slots. -/
theorem part_adds (w : IVec S8x64 32) (a : FVec Ideal S8x64 .f32) (b : Fin 8) (p : Fin 64) :
    k0_pay6 w pids a (k0_pay5 w pids) (ix2 b p) = a (ix2 b p) + ∑ i ∈ Finset.range 10, nth w b p (12 + i)
    ∧ k0_pay8 w pids a (k0_pay7 w pids) (ix2 b p) = a (ix2 b p) + ∑ i ∈ Finset.range 10, nth w b p (22 + i)
    ∧ k0_pay10 w pids a (k0_pay9 w pids) (ix2 b p) = a (ix2 b p) + ∑ i ∈ Finset.range 10, nth w b p (32 + i)
    ∧ k0_pay12 w pids a (k0_pay11 w pids) (ix2 b p) = a (ix2 b p) + ∑ i ∈ Finset.range 10, nth w b p (42 + i)
    ∧ k0_pay14 w pids a (k0_pay13 w pids) (ix2 b p) = a (ix2 b p) + ∑ i ∈ Finset.range 10, nth w b p (52 + i) := by
  refine ⟨?_, ?_, ?_, ?_, ?_⟩ <;>
  · pointwise [k0_pay5, k0_pay6, k0_pay7, k0_pay8, k0_pay9, k0_pay10, k0_pay11, k0_pay12, k0_pay13, k0_pay14, pids, eqNumber]
    simp only [Finset.sum_range_succ, Finset.sum_range_zero, zero_add, ← add_assoc]
    rfl

/-- The first part adds the first twelve slots to zero. -/
theorem cnt1_apply (b : Fin 8) (p : Fin 64) : cnt1 m c (ix2 b p) = ∑ i ∈ Finset.range 12, nth (lp m c) b p i := by
  unfold cnt1
  have h2 : k0_pay2 c (stB m c) (stL m c) (ix2 b p) = nth (lp m c) b p 0 + nth (lp m c) b p 1 := by
    pointwise [k0_pay2, eqNumber]; rfl
  have h3 : k0_pay3 (F := Ideal) c (stB m c) (stL m c) (ix2 b p)
      = BitVec.setWidth 32 (IntOp.cmpi CmpIPredicate.eq (lp m c (ix2 b 2)) (BitVec.ofNat 32 p.val)) := by
    pointwise [k0_pay3]; rfl
  pointwise [k0_pay4, pids, eqNumber, h2, h3]
  simp only [Finset.sum_range_succ, Finset.sum_range_zero, zero_add]
  rfl

theorem cnt6_apply (b : Fin 8) (p : Fin 64) : cnt6 m c (ix2 b p) = ∑ i ∈ Finset.range 62, nth (lp m c) b p i := by
  unfold cnt6 cnt5 cnt4 cnt3 cnt2
  rw [(part_adds (lp m c) _ b p).2.2.2.2, (part_adds (lp m c) _ b p).2.2.2.1, (part_adds (lp m c) _ b p).2.2.1,
    (part_adds (lp m c) _ b p).2.1, (part_adds (lp m c) _ b p).1, cnt1_apply]
  simp only [← Finset.sum_range_add]

/-- The weight of a key: how many slots of the row name its page. -/
theorem wgt_apply (b : Fin 8) (k : Fin 1024) : wgt m c (ix2 b k) = ∑ j, named (lp m c) b (keyP k) j := by
  have h62 (x : Fin 64) : (if lp m c (ix2 b 62) = BitVec.ofNat 32 x.val then (1 : EReal) else 0) = nth (lp m c) b x 62 := rfl
  have h63 (x : Fin 64) : (if lp m c (ix2 b 63) = BitVec.ofNat 32 x.val then (1 : EReal) else 0) = nth (lp m c) b x 63 := rfl
  have e (x : Fin 64) : (if BitVec.ofNat 32 (k.val / 16) = BitVec.ofNat 32 x.val then (1 : EReal) else 0) = if keyP k = x then 1 else 0 :=
    if_congr (ofNat_inj64 (keyP k) x) rfl rfl
  unfold wgt
  pointwise [k0_pay16, k0_pay15, pids, eqNumber, floor16]
  simp only [e, h62, h63, mul_ite, mul_one, mul_zero, Finset.sum_ite_eq, Finset.mem_univ, if_true, cnt6_apply]
  have hs : ∑ j, named (lp m c) b (keyP k) j = ∑ i ∈ Finset.range (63 + 1), nth (lp m c) b (keyP k) i := by
    rw [Finset.sum_range]
    exact Finset.sum_congr rfl fun j _ => congrArg _ (Fin.ext (Nat.mod_eq_of_lt j.isLt).symm)
  rw [hs, Finset.sum_range_succ _ 63, Finset.sum_range_succ _ 62]

end Cert.Paged
-- ==== Proof.Waves.lean ====
/-
What a device leaves in its scratch: for every head and row the weighted sum of the exponentials of its shard's scores,
and of their products with the values. Heads 0–3 and heads 4–7 go through the same operations.
-/
module

public import proofs.«01_k».proof.Proof.Counts

@[expose] public section

set_option maxRecDepth 16384

noncomputable section

namespace Cert.Paged

open Cert.KernelIdeal Cert.KernelIdeal.Gen

open Idealize.ShloMosaic
open Idealize.ShloMosaic.TcCoe
open Idealize.SL.Sem

variable (m : (ℓ : Loc nD τ sig) → Buf (Elt Ideal) ℓ) (c : Dev nD)

/-- The row of head `h`, of a wave's four, and batch row `b`; the column of head `h` and coordinate `d`; the head's number
among all eight. -/
abbrev rowOf (h : Fin 4) (b : Fin 8) : Fin 32 := ⟨8 * h.val + b.val, by have := h.isLt; have := b.isLt; omega⟩
abbrev colOf (h : Fin 4) (d : Fin 64) : Fin 256 := ⟨64 * h.val + d.val, by have := h.isLt; have := d.isLt; omega⟩
abbrev headOf (g : Fin 2) (h : Fin 4) : Fin 8 := ⟨4 * g.val + h.val, by have := h.isLt; have := g.isLt; omega⟩

/-! ## The block diagonal -/

/-- A row's head among the wave's four, as the words compute it; -/
theorem floor8 (k : Fin 32) :
    Scalar.select
        (IntOp.andi
          (IntOp.cmpi CmpIPredicate.ne
            (IntOp.subi (BitVec.setWidth 32 (IntOp.cmpi CmpIPredicate.sgt (BitVec.ofNat 32 k.val) 0#32))
              (BitVec.setWidth 32 (IntOp.cmpi CmpIPredicate.slt (BitVec.ofNat 32 k.val) 0#32)))
            (Scalar.subi (Scalar.extui (Scalar.cmpi CmpIPredicate.sgt 8#32 0#32))
              (Scalar.extui (Scalar.cmpi CmpIPredicate.slt 8#32 0#32))))
          (IntOp.cmpi CmpIPredicate.ne (IntOp.remsi ArithUnit.vector (BitVec.ofNat 32 k.val) 8#32) 0#32))
        (IntOp.subi (IntOp.divsi ArithUnit.vector (BitVec.ofNat 32 k.val) 8#32) 1#32)
        (IntOp.divsi ArithUnit.vector (BitVec.ofNat 32 k.val) 8#32)
      = BitVec.ofNat 32 (k.val / 8) := by
  revert k; decide +kernel

/-- a column's head. -/
theorem floor64 (k : Fin 256) :
    Scalar.select
        (IntOp.andi
          (IntOp.cmpi CmpIPredicate.ne
            (IntOp.subi (BitVec.setWidth 32 (IntOp.cmpi CmpIPredicate.sgt (BitVec.ofNat 32 k.val) 0#32))
              (BitVec.setWidth 32 (IntOp.cmpi CmpIPredicate.slt (BitVec.ofNat 32 k.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 k.val) 64#32) 0#32))
        (IntOp.subi (IntOp.divsi ArithUnit.vector (BitVec.ofNat 32 k.val) 64#32) 1#32)
        (IntOp.divsi ArithUnit.vector (BitVec.ofNat 32 k.val) 64#32)
      = BitVec.ofNat 32 (k.val / 64) := by
  revert k; decide +kernel

/-- The mask keeps the columns of the row's own head. -/
theorem bdm_apply (h : Fin 4) (b : Fin 8) (x : Fin 256) :
    bdm (ix2 (rowOf h b) x) = if x.val / 64 = h.val then 1#1 else 0#1 := by
  have table : ∀ i j : Fin 4, IntOp.cmpi CmpIPredicate.eq (BitVec.ofNat 32 i.val) (BitVec.ofNat 32 j.val)
      = if j.val = i.val then 1#1 else 0#1 := by decide
  have row := floor8 (rowOf h b)
  dsimp only [rowOf] at row
  unfold bdm
  pointwise [k0_pay18, k0_pay19, k0_pay20]
  rw [floor64, row, show (8 * h.val + b.val) / 8 = h.val by have := b.isLt; omega]
  exact table h (Fin.divNat (m := 4) (n := 64) x)

/-- Of four copies of eight rows, row `b` of copy `h` is row `b`. -/
theorem four_copies {α : Type} (f : Fin 8 → α) (h : Fin 4) (b : Fin 8) :
    (if h1 : 8 * h.val + b.val < 8 then f ⟨8 * h.val + b.val, h1⟩
      else if h2 : 8 * h.val + b.val - 8 < 8 then f ⟨8 * h.val + b.val - 8, h2⟩
      else if h3 : 8 * h.val + b.val - 8 - 8 < 8 then f ⟨8 * h.val + b.val - 8 - 8, h3⟩
      else f ⟨8 * h.val + b.val - 8 - 8 - 8, by have := h.isLt; have := b.isLt; omega⟩) = f b := by
  have := h.isLt; have := b.isLt
  split_ifs <;> exact congrArg f (Fin.ext (by dsimp only; omega))

/-- Among the columns of four heads, those of one. -/
theorem sum_head (h : Fin 4) (f : Fin 4 → Fin 64 → EReal) :
    (∑ x : Fin 256, if x.val / 64 = h.val then f (Fin.divNat (m := 4) (n := 64) x) (Fin.modNat (m := 4) (n := 64) x) else 0)
      = ∑ d, f h d := by
  refine (Finset.sum_congr rfl fun x _ => ?_).trans
    ((sum_split 4 64 fun i d => if i = h then f i d else 0).trans ?_)
  · exact if_congr (Fin.ext_iff (a := Fin.divNat (m := 4) (n := 64) x) (b := h)).symm rfl rfl
  · rw [Finset.sum_eq_single h (fun i _ hi => Finset.sum_eq_zero fun d _ => if_neg hi) fun hn => absurd (Finset.mem_univ h) hn]
    exact Finset.sum_congr rfl fun d _ => if_pos rfl

/-- The weights are the same for the four heads. -/
theorem wt4_apply (h : Fin 4) (b : Fin 8) (k : Fin 1024) : wt4 m c (ix2 (rowOf h b) k) = wgt m c (ix2 b k) := by
  unfold wt4
  pointwise [k0_pay21]
  exact four_copies (fun b => wgt m c (ix2 b k)) h b

/-! ## One wave -/

section Wave

variable (q : FVec Ideal S8x4x64 .f32) (k v : Vec Ideal S64x16x4x64 .f32) (h : Fin 4) (b : Fin 8)

/-- The exponential of a key's score with a wave's queries. -/
def waveExp (x : Fin 1024) : EReal :=
  Ideal.exp ((∑ d : Fin 64, q (ix3 b h d) * k (ix4 (keyP x) (keyT x) h d)) * Ideal.ofBits FTy.f32 0x3E000000#32)

/-- What a wave weighs a key with: its weight times the exponential of its score. -/
theorem wave_weight (x : Fin 1024) :
    k0_pay23 bdm (wt4 m c) q k (ix2 (rowOf h b) x) = wgt m c (ix2 b x) * waveExp q k h b x := by
  pointwise [k0_pay23]
  rw [wt4_apply]
  refine congrArg (wgt m c (ix2 b x) * ·) (congrArg Ideal.exp (congrArg (· * _) ?_))
  refine (Finset.sum_congr rfl fun y _ => ?_).trans
    (sum_head h fun i d => q (ix3 b i d) * k (ix4 (keyP x) (keyT x) i d))
  rw [bdm_apply]
  have row := four_copies (fun b => q (ix3 b (Fin.divNat (m := 4) (n := 64) y) (Fin.modNat (m := 4) (n := 64) y))) h b
  by_cases hy : y.val / 64 = h.val
  · rw [if_pos hy, if_pos hy]
    exact congrArg (· * _) row
  · rw [if_neg hy, if_neg hy]
    rfl

/-- A row's denominator is the sum of these, -/
theorem wave_den : k0_pay24 bdm (wt4 m c) q k (ix2 (rowOf h b) 0) = ∑ x, wgt m c (ix2 b x) * waveExp q k h b x := by
  pointwise [k0_pay24]
  exact Finset.sum_congr rfl fun x _ => wave_weight m c q k h b x

/-- and its products are their sums with the values. -/
theorem wave_acc (d : Fin 64) : k0_pay25 bdm (wt4 m c) q k v (ix2 (rowOf h b) (colOf h d))
    = ∑ x, wgt m c (ix2 b x) * waveExp q k h b x * v (ix4 (keyP x) (keyT x) h d) := by
  have hd := d.isLt
  pointwise [k0_pay25]
  refine Finset.sum_congr rfl fun x _ => ?_
  rw [wave_weight]
  refine congrArg (_ * ·) (congrArg v (congrArg₂ (ix4 (keyP x) (keyT x)) (Fin.ext ?_) (Fin.ext ?_)))
  · show (64 * h.val + d.val) / 64 = h.val; omega
  · show (64 * h.val + d.val) % 64 = d.val; omega

end Wave

/-! ## The two groups of heads -/

/-- A head's group and its place there. -/
abbrev groupOf (H : Fin 8) : Fin 2 := ⟨H.val / 4, by have := H.isLt; omega⟩
abbrev placeOf (H : Fin 8) : Fin 4 := ⟨H.val % 4, by omega⟩

/-- A group's queries, keys and values. -/
def qG : Fin 2 → FVec Ideal S8x4x64 .f32 := fun
  | 0 => q0 m c
  | 1 => shapeCast S8x4x64 (extractStridedSlice S8x1x4x64 ![0, 0, 4, 0] (qAll m c) slices_S8x1x8x64_o0_0_4_0_S8x1x4x64) shapeCasts_S8x1x4x64_S8x4x64
def kG : Fin 2 → Vec Ideal S64x16x4x64 .f32 := fun
  | 0 => key0 m c
  | 1 => key4 m c
def vG : Fin 2 → Vec Ideal S64x16x4x64 .f32 := fun
  | 0 => val0 m c
  | 1 => val4 m c

/-- A group's denominators and products. -/
def lG (g : Fin 2) : FVec Ideal S32x1 .f32 := k0_pay24 bdm (wt4 m c) (qG m c g) (kG m c g)
def pG (g : Fin 2) : FVec Ideal S32x256 .f32 := k0_pay25 bdm (wt4 m c) (qG m c g) (kG m c g) (vG m c g)

/-- The kernel's values by these names. -/
theorem l0_eq : l0 m c = lG m c 0 := rfl
theorem p0_eq : p0 m c = pG m c 0 := rfl
theorem l4_eq : l4 m c = lG m c 1 := rfl
theorem p4_eq : p4 m c = pG m c 1 := rfl
theorem den0_eq : k0_pay24 bdm (wt4 m c) (q0 m c) (key0 m c) = lG m c 0 := rfl
theorem acc0_eq : k0_pay25 bdm (wt4 m c) (q0 m c) (key0 m c) (val0 m c) = pG m c 0 := rfl
theorem acc4_eq : k0_pay37 (qAll m c) bdm (wt4 m c) (key4 m c) (val4 m c) = pG m c 1 := rfl

/-- A group's queries, keys and values are its heads'. -/
theorem qG_apply (H b : Fin 8) (d : Fin 64) : qG m c (groupOf H) (ix3 b (placeOf H) d) = stQ m c (ix4 b 0 H d) := by
  fin_cases H <;> dsimp only [qG, groupOf, placeOf] <;> unfold q0 qAll <;> pointwise [k0_pay22, k0_pay17]
theorem kG_apply (H : Fin 8) (p : Fin 64) (t : Fin 16) (d : Fin 64) : kG m c (groupOf H) (ix4 p t (placeOf H) d) = stK m c (ix4 p t H d) := by
  fin_cases H <;> exact congrArg (stK m c) (funext fun a => Fin.ext (by fin_cases a <;> simp [Rect.emb]))
theorem vG_apply (H : Fin 8) (p : Fin 64) (t : Fin 16) (d : Fin 64) : vG m c (groupOf H) (ix4 p t (placeOf H) d) = stV m c (ix4 p t H d) := by
  fin_cases H <;> exact congrArg (stV m c) (funext fun a => Fin.ext (by fin_cases a <;> simp [Rect.emb]))

seal lG pG

/-- Every head's accumulator is its part of its group's products, -/
theorem accH_apply (H b : Fin 8) (d : Fin 64) :
    accH m c H (ix3 0 b d) = pG m c (groupOf H) (ix2 (rowOf (placeOf H) b) (colOf (placeOf H) d)) := by
  fin_cases H <;> dsimp only [accH] <;>
    pointwise [k0_pay26, k0_pay28, k0_pay31, k0_pay33, k0_pay38, k0_pay39, k0_pay41, k0_pay43, k0_pay45] <;>
    simp only [p0_eq, p4_eq, acc0_eq, acc4_eq] <;>
    exact congrArg (pG m c _) (congrArg₂ ix2 (Fin.ext (by simp)) (Fin.ext (by simp)))

/-- and its denominator its part of its group's. -/
theorem denH_apply (H b : Fin 8) : denH m c H (ix3 0 b 0) = lG m c (groupOf H) (ix2 (rowOf (placeOf H) b) 0) := by
  fin_cases H <;> dsimp only [denH] <;>
    pointwise [k0_pay27, k0_pay29, k0_pay30, k0_pay32, k0_pay34, k0_pay40, k0_pay42, k0_pay44, k0_pay46] <;>
    simp only [l0_eq, l4_eq, den0_eq] <;>
    exact congrArg (lG m c _) (congrArg (ix2 · 0) (Fin.ext (by simp)))

/-- What the combining steps load of the two halves. -/
theorem ra0_apply (h : Fin 4) (b : Fin 8) (d : Fin 64) : ra0 m c (ix3 h b d) = accH m c ⟨h.val, by omega⟩ (ix3 0 b d) :=
  congrArg (accC m c) (show _ = ix3 ⟨h.val, by omega⟩ b d from funext fun a => Fin.ext (by fin_cases a <;> simp [Rect.emb]))
theorem ra4_apply (h : Fin 4) (b : Fin 8) (d : Fin 64) : ra4 m c (ix3 h b d) = accH m c ⟨4 + h.val, by omega⟩ (ix3 0 b d) :=
  congrArg (accC m c) (show _ = ix3 ⟨4 + h.val, by omega⟩ b d from funext fun a => Fin.ext (by fin_cases a <;> simp [Rect.emb]))
theorem rd0_apply (h : Fin 4) (b : Fin 8) : rd0 m c (ix3 h b 0) = denH m c ⟨h.val, by omega⟩ (ix3 0 b 0) :=
  congrArg (denC m c) (show _ = ix3 ⟨h.val, by omega⟩ b 0 from funext fun a => Fin.ext (by fin_cases a <;> simp [Rect.emb]))
theorem rd4_apply (h : Fin 4) (b : Fin 8) : rd4 m c (ix3 h b 0) = denH m c ⟨4 + h.val, by omega⟩ (ix3 0 b 0) :=
  congrArg (denC m c) (show _ = ix3 ⟨4 + h.val, by omega⟩ b 0 from funext fun a => Fin.ext (by fin_cases a <;> simp [Rect.emb]))

/-- A device's result: the two shards' accumulators over their denominators. -/
theorem outC_apply (b H : Fin 8) (d : Fin 64) : outC m c (ix4 b 0 H d)
    = Ideal.div (accH m c H (ix3 0 b d) + accH m (pr c) H (ix3 0 b d)) (denH m c H (ix3 0 b 0) + denH m (pr c) H (ix3 0 b 0)) := by
  show outH m c H (ix4 b 0 0 d) = _
  fin_cases H <;> dsimp only [outH] <;>
    pointwise [k0_pay47, k0_pay48, k0_pay49, k0_pay50, k0_pay51, k0_pay52, k0_pay53, k0_pay54, k0_pay55, k0_pay56, k0_pay57, k0_pay58] <;>
    simp only [ra0_apply, ra4_apply, rd0_apply, rd4_apply] <;> rfl

/-- Device `c`'s queries, keys and values. -/
abbrev devQ : FVec Ideal S8x1x8x64 .f32 := m ((c.tc : Thread nD τ).loc main_arg0)
abbrev devK : FVec Ideal S64x16x8x64 .f32 := m ((c.tc : Thread nD τ).loc main_arg1)
abbrev devV : FVec Ideal S64x16x8x64 .f32 := m ((c.tc : Thread nD τ).loc main_arg2)

/-- The exponential of a shard's key's score, and what device `c`'s shard adds for a row and a head. -/
def shardExp (b H : Fin 8) (p : Fin 64) (t : Fin 16) : EReal :=
  Ideal.exp ((∑ d : Fin 64, devQ m c (ix4 b 0 H d) * devK m c (ix4 p t H d)) * Ideal.ofBits FTy.f32 0x3E000000#32)

/-- A wave's exponentials are those of the device's queries and keys. -/
theorem waveExp_eq (b H : Fin 8) (x : Fin 1024) :
    waveExp (qG m c (groupOf H)) (kG m c (groupOf H)) (placeOf H) b x = shardExp m c b H (keyP x) (keyT x) := by
  unfold waveExp shardExp
  simp only [qG_apply, kG_apply, stQ_eq, stK_eq]

/-- A head's denominator on a device: the weighted exponentials of its shard's keys; -/
theorem den_apply (b H : Fin 8) : denH m c H (ix3 0 b 0) = ∑ x, wgt m c (ix2 b x) * shardExp m c b H (keyP x) (keyT x) := by
  rw [denH_apply, show lG m c (groupOf H) = k0_pay24 bdm (wt4 m c) (qG m c (groupOf H)) (kG m c (groupOf H)) by unfold lG; rfl, wave_den]
  simp only [waveExp_eq]

/-- its accumulator: the same with the values. -/
theorem acc_apply (b H : Fin 8) (d : Fin 64) : accH m c H (ix3 0 b d)
    = ∑ x, wgt m c (ix2 b x) * (shardExp m c b H (keyP x) (keyT x) * devV m c (ix4 (keyP x) (keyT x) H d)) := by
  rw [accH_apply, show pG m c (groupOf H) = k0_pay25 bdm (wt4 m c) (qG m c (groupOf H)) (kG m c (groupOf H)) (vG m c (groupOf H)) by unfold pG; rfl, wave_acc]
  simp only [waveExp_eq, vG_apply, stV_eq, mul_assoc]

end Cert.Paged
-- ==== Proof.Reference.lean ====
/-
The reference read at an index: attention of one row and head over its slots, each reading the page its table entry names.
-/
module

public import proofs.«01_k».proof.Proof.Gen.ReferenceIdeal
public import proofs.«01_k».proof.Proof.Gen.ReferenceIdeal.Run
public import proofs.«01_k».proof.Proof.Equation

@[expose] public section

set_option maxRecDepth 16384

noncomputable section

namespace Cert.Paged.Ref

open Cert.ReferenceIdeal Cert.ReferenceIdeal.Gen

open Idealize.ShloMosaic
open Idealize.ShloMosaic.TcCoe
open Idealize.SL.Sem

/-- The pool of pages, whole. -/
abbrev Pages := FVec Ideal S128x16x8x64 .f32

/-- The table entries, a negative one counted from the end; -/
def pageWord (bt : IVec S8x64 32) : IVec S8x64x1 32 :=
  broadcastInDim S8x64x1 ![0, 1] bcast_S8x64_S8x64x1_0_1 (select (cmpi .slt bt (broadcastInDim S8x64 ![] bcast_S_S8x64 (constantI S_ 32 0#32))) (addi bt (broadcastInDim S8x64 ![] bcast_S_S8x64 (constantI S_ 32 128#32))) bt)

/-- the pages they name, slot by slot. -/
def slots (X : Pages) (bt : IVec S8x64 32) : FVec Ideal S8x1024x8x64 .f32 :=
  shapeCast _ (Host.gather gather_S128x16x8x64_S8x64x1_S8x64x16x8x64_234_0_n_n_0_2_116864 X (pageWord bt)) shapeCasts_S8x64x16x8x64_S8x1024x8x64

/-- The slot number of every key. -/
def slotOf : IVec S1x1024 32 :=
  select (andi (cmpi .ne (signi (broadcastInDim S1x1024 ![1] bcast_S1024_S1x1024_1 (iotaInDim S1024 32 0))) (broadcastInDim S1x1024 ![] bcast_S_S1x1024 (signi (id (constantI S_ 32 16#32))))) (cmpi .ne (Host.remsi (broadcastInDim S1x1024 ![1] bcast_S1024_S1x1024_1 (iotaInDim S1024 32 0)) (broadcastInDim S1x1024 ![] bcast_S_S1x1024 (id (constantI S_ 32 16#32)))) (broadcastInDim S1x1024 ![] bcast_S_S1x1024 (constantI S_ 32 0#32)))) (subi (Host.divsi (broadcastInDim S1x1024 ![1] bcast_S1024_S1x1024_1 (iotaInDim S1024 32 0)) (broadcastInDim S1x1024 ![] bcast_S_S1x1024 (id (constantI S_ 32 16#32)))) (broadcastInDim S1x1024 ![] bcast_S_S1x1024 (constantI S_ 32 1#32))) (Host.divsi (broadcastInDim S1x1024 ![1] bcast_S1024_S1x1024_1 (iotaInDim S1024 32 0)) (broadcastInDim S1x1024 ![] bcast_S_S1x1024 (id (constantI S_ 32 16#32))))

/-- The keys before a row's length. -/
def live (ln : IVec S8 32) : IVec S8x1024 1 :=
  cmpi .slt (broadcastInDim S8x1024 ![0, 1] bcast_S1x1024_S8x1024_0_1 slotOf) (broadcastInDim S8x1024 ![0, 1] bcast_S8x1_S8x1024_0_1 (broadcastInDim S8x1 ![0] bcast_S8_S8x1_0 ln))

/-- The scaled scores of the live keys, `-∞` at the others; -/
def scores (Q : FVec Ideal S8x1x8x64 .f32) (K : Pages) (bt : IVec S8x64 32) (ln : IVec S8 32) : FVec Ideal S8x8x1x1024 .f32 :=
  select (broadcastInDim S8x8x1x1024 ![0, 1, 2, 3] bcast_S8x1x1x1024_S8x8x1x1024_0_1_2_3 (broadcastInDim S8x1x1x1024 ![0, 3] bcast_S8x1024_S8x1x1x1024_0_3 (live ln))) (mulf (Host.dotGeneral dot_S8x1x8x64_S8x1024x8x64_S8x8x1x1024_3_3_1_1_02_02 none Q (slots K bt)) (broadcastInDim S8x8x1x1024 ![] bcast_S_S8x8x1x1024 (constant S_ .f32 0x3E000000#32))) (broadcastInDim S8x8x1x1024 ![] bcast_S_S8x8x1x1024 (id (constant S_ .f32 0xFF800000#32)))

/-- each row's greatest score, -/
def rowMax (S : FVec Ideal S8x8x1x1024 .f32) : FVec Ideal S8x8x1 .f32 :=
  Host.reduce FloatOps.maximumf S (constant S_ .f32 0xFF800000#32) reducesTo_S8x8x1x1024_S8x8x1_d3 h_S_

/-- the exponentials below it, -/
def expd (S : FVec Ideal S8x8x1x1024 .f32) : FVec Ideal S8x8x1x1024 .f32 :=
  Host.exp (subf S (broadcastInDim S8x8x1x1024 ![0, 1, 2, 3] bcast_S8x8x1x1_S8x8x1x1024_0_1_2_3 (broadcastInDim S8x8x1x1 ![0, 1, 2] bcast_S8x8x1_S8x8x1x1_0_1_2 (rowMax S))))

/-- and their shares of the row's sum. -/
def probs (E : FVec Ideal S8x8x1x1024 .f32) : FVec Ideal S8x8x1x1024 .f32 :=
  Host.divf E (broadcastInDim S8x8x1x1024 ![0, 1, 2, 3] bcast_S8x8x1x1_S8x8x1x1024_0_1_2_3 (broadcastInDim S8x8x1x1 ![0, 1, 2] bcast_S8x8x1_S8x8x1x1_0_1_2 (Host.reduceAdd E (constant S_ .f32 0x00000000#32) reducesTo_S8x8x1x1024_S8x8x1_d3 h_S_)))

/-- The values weighted by the shares. -/
def attend (Q : FVec Ideal S8x1x8x64 .f32) (K V : Pages) (bt : IVec S8x64 32) (ln : IVec S8 32) : FVec Ideal S8x1x8x64 .f32 :=
  transpose S8x1x8x64 [0, 3, 1, 2] (Host.dotGeneral dot_S8x1024x8x64_S8x8x1x1024_S8x8x64x1_1_3_3_2_02_01 none (slots V bt) (probs (expd (scores Q K bt ln)))) transposes_S8x8x64x1_S8x1x8x64_0_3_1_2

/-- The reference computes just that. -/
theorem main_v38_eq (m : (ℓ : Loc nD τ sig) → Buf (Elt Ideal) ℓ) (c : Dev nD) : Value.res_main_v38 m c =
   attend (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- A gathered page is the one its table entry names, held within the pool. -/
theorem gather_apply (X : Pages) (idx : IVec S8x64x1 32) (b : Fin 8) (j : Fin 64) (t : Fin 16) (h : Fin 8) (d : Fin 64) :
    Host.gather gather_S128x16x8x64_S8x64x1_S8x64x16x8x64_234_0_n_n_0_2_116864 X idx (ix5 b j t h d)
      = X (ix4 ⟨min (idx (ix3 b j 0)).toInt.toNat 127, by omega⟩ t h d) := by
  unfold Host.gather
  refine congrArg X (funext fun a => Fin.ext ?_)
  fin_cases a
  · show min (idx _).toInt.toNat _ + 0 + 0 = min (idx (ix3 b j 0)).toInt.toNat 127
    refine congrArg (fun i => min (idx i).toInt.toNat 127) (funext fun a => Fin.ext ?_)
    fin_cases a <;> rfl
  · show 0 + 0 + t.val = t.val; omega
  · show 0 + 0 + h.val = h.val; omega
  · show 0 + 0 + d.val = d.val; omega

/-- Row `b`'s live slots, and the page a slot reads. -/
abbrev liveSlot (ln : IVec S8 32) (b : Fin 8) (j : Fin 64) : Prop := IntOp.cmpi CmpIPredicate.slt (BitVec.ofNat 32 j.val) (ln (ix1 b)) = 1#1
abbrev slotPage (bt : IVec S8x64 32) (b : Fin 8) (j : Fin 64) : Fin 128 := ⟨min (pageWord bt (ix3 b j 0)).toInt.toNat 127, by omega⟩

/-- A row's keys in order are its slots' pages' tokens. -/
theorem slots_apply (X : Pages) (bt : IVec S8x64 32) (b : Fin 8) (k : Fin 1024) (h : Fin 8) (d : Fin 64) :
    slots X bt (ix4 b k h d) = X (ix4 (slotPage bt b (keyP k)) (keyT k) h d) := by
  pointwise [slots]
  exact gather_apply X (pageWord bt) b (keyP k) (keyT k) h d

/-- A key's slot. -/
theorem slotOf_apply (k : Fin 1024) : slotOf (ix2 0 k) = BitVec.ofNat 32 (keyP k).val := by
  pointwise [slotOf]
  dsimp only [id]
  pointwise
  revert k
  decide +kernel

/-- The score of a row's query with a key of a page. -/
def score (Q : FVec Ideal S8x1x8x64 .f32) (K : Pages) (b h : Fin 8) (P : Fin 128) (t : Fin 16) : EReal :=
  (∑ d : Fin 64, Q (ix4 b 0 h d) * K (ix4 P t h d)) * Ideal.ofBits FTy.f32 0x3E000000#32

/-- The scores, masked past the row's length. -/
theorem scores_apply (Q : FVec Ideal S8x1x8x64 .f32) (K : Pages) (bt : IVec S8x64 32) (ln : IVec S8 32) (b h : Fin 8) (k : Fin 1024) :
    scores Q K bt ln (ix4 b h 0 k) = slotScore (liveSlot ln b) (slotPage bt b) (score Q K b h) k := by
  unfold scores live slotScore score
  pointwise
  rw [slotOf_apply]
  simp only [slots_apply]
  show Scalar.select (IntOp.cmpi CmpIPredicate.slt (BitVec.ofNat 32 (keyP k).val) (ln (ix1 b))) _ (Ideal.ofBits FTy.f32 0xFF800000#32) = _
  rw [ofBits_bot]
  rfl

/-- The reference at a row, a head and a coordinate: the softmax of the row's scores, with the values. -/
theorem attend_apply (Q : FVec Ideal S8x1x8x64 .f32) (K V : Pages) (bt : IVec S8x64 32) (ln : IVec S8 32) (b h : Fin 8) (d : Fin 64) :
    attend Q K V bt ln (ix4 b 0 h d)
      = softmaxDot (liveSlot ln b) (slotPage bt b) (score Q K b h) (fun P t => V (ix4 P t h d)) := by
  have expd_apply (S : FVec Ideal S8x8x1x1024 .f32) (k : Fin 1024) : expd S (ix4 b h 0 k)
      = Ideal.exp (S (ix4 b h 0 k) - Finset.fold max ⊥ (fun x => S (ix4 b h 0 x)) Finset.univ) := by
    pointwise [expd, rowMax]
    rw [ofBits_bot]
  have probs_apply (S : FVec Ideal S8x8x1x1024 .f32) (k : Fin 1024) : probs S (ix4 b h 0 k)
      = Ideal.div (S (ix4 b h 0 k)) (∑ x, S (ix4 b h 0 x)) := by
    pointwise [probs]
  unfold attend softmaxDot
  pointwise
  simp only [slots_apply, probs_apply, expd_apply, scores_apply]

end Cert.Paged.Ref
-- ==== Proof.Given.lean ====
/-
What the precondition gives, read back from its printed text: numbers for queries and keys, a first slot live in every row,
and a page of the pool at every live slot.
-/
module

public import proofs.«01_k».proof.Pre_pre_KernelIdeal
public import proofs.«01_k».proof.Proof.Equation
public import Idealize.ShloMosaic.Lib.ReduceAll

@[expose] public section

set_option maxRecDepth 16384

noncomputable section

namespace Cert.Paged

open Cert.Pre_pre_KernelIdeal Cert.Pre_pre_KernelIdeal.Facts

open Idealize.ShloMosaic

/-- A value whose magnitude is below `∞` is a real. -/
theorem real_of_abs (x : EReal) (h : Ideal.cmp CmpFPredicate.olt (max x (-x)) (Ideal.ofBits FTy.f32 0x7F800000#32) = 1#1) :
    ∃ r : ℝ, x = r := by
  rw [ofBits_top] at h
  induction x using EReal.rec with
  | bot => simp [Ideal.cmp] at h
  | top => simp [Ideal.cmp] at h
  | coe r => exact ⟨r, rfl⟩

/-- What a run is given of one device's arrays. -/
structure Given (Q : FVec Ideal S8x1x8x64 .f32) (K : FVec Ideal S64x16x8x64 .f32) (bt : IVec S8x64 32) (ln : IVec S8 32) : Prop where
  query : ∀ i, ∃ r : ℝ, Q i = r
  key : ∀ i, ∃ r : ℝ, K i = r
  length : ∀ b, 1 ≤ (ln (ix1 b)).toInt
  entry : ∀ b (j : Fin 64), (BitVec.ofNat 32 j.val).toInt < (ln (ix1 b)).toInt → 0 ≤ (bt (ix2 b j)).toInt ∧ (bt (ix2 b j)).toInt < 128

/-- The precondition, read back. -/
theorem given [Cert.Pre_pre_KernelIdeal.Facts] (Q : FVec Ideal S8x1x8x64 .f32) (K V : FVec Ideal S64x16x8x64 .f32) (bt : IVec S8x64 32)
    (ln : IVec S8 32) (h : fn (F := Ideal) Q K V bt ln = fun _ => 1#1) : Given Q K bt ln := by
  have e := congrFun h ix0
  dsimp only [fn, fn_part1] at e
  obtain ⟨e, hbt⟩ := IntOp.andi_eq_one.1 e
  obtain ⟨e, hln⟩ := IntOp.andi_eq_one.1 e
  obtain ⟨hQ, hK⟩ := IntOp.andi_eq_one.1 e
  refine ⟨fun i => real_of_abs _ (Host.reduce_andi_all _ _ _ _ _ hQ i), fun i => real_of_abs _ (Host.reduce_andi_all _ _ _ _ _ hK i),
    fun b => IntOp.cmpi_sge.1 (Host.reduce_andi_all _ _ _ _ _ hln (ix1 b)), fun b j hj => ?_⟩
  have hb := Host.reduce_andi_all _ _ _ _ _ hbt (ix2 b j)
  rcases IntOp.ori_eq_one.1 hb with hn | hr
  · have hc : IntOp.cmpi CmpIPredicate.slt (BitVec.ofNat 32 j.val) (ln (ix1 b)) = 1#1 := IntOp.cmpi_slt.2 hj
    pointwise at hn
    rw [hc] at hn
    exact absurd hn (by decide)
  · exact ⟨IntOp.cmpi_sge.1 (IntOp.andi_eq_one.1 hr).1, IntOp.cmpi_slt.1 (IntOp.andi_eq_one.1 hr).2⟩

end Cert.Paged
-- ==== Proof.Value.lean ====
/-
The kernel's result is the reference's: a device's weights count the live slots that read its pages, and the two shards of
a ring together cover the pool.
-/
module

public import proofs.«01_k».proof.Proof.Waves
public import proofs.«01_k».proof.Proof.Reference
public import proofs.«01_k».proof.Proof.Given
public import Idealize.ShloMosaic.Lib.Layout

@[expose] public section

set_option maxRecDepth 16384

noncomputable section

namespace Cert.Paged

open Cert.KernelIdeal Cert.KernelIdeal.Gen

open Idealize.ShloMosaic
open Idealize.ShloMosaic.TcCoe
open Idealize.SL.Sem
open Cert.Paged.Ref (Pages liveSlot slotPage score)

/-- The shard a device holds. -/
abbrev shardOf (c : Dev nD) : Fin 2 := ⟨c.val % 2, by omega⟩

/-- Two peers hold different shards. -/
theorem shardOf_pr (c : Dev nD) : shardOf c ≠ shardOf (pr c) := by revert c; decide

/-- A shard's first page, as the words compute it. -/
theorem shard_word (c : Dev nD) :
    Scalar.muli (Scalar.remsi (Scalar.divsi c.word 1#32) 2#32) 64#32 = BitVec.ofNat 32 (64 * (shardOf c).val) := by
  revert c; decide

/-- No slot that is not live has a page's number. -/
theorem dead_word (p : Fin 64) : 4294967295#32 ≠ BitVec.ofNat 32 p.val := by revert p; decide

/-- The page a slot reads, from its table entry. -/
theorem slotPage_val (bt : IVec S8x64 32) (b : Fin 8) (j : Fin 64) : (slotPage bt b j).val
    = min (Scalar.select (IntOp.cmpi CmpIPredicate.slt (bt (ix2 b j)) 0#32) (IntOp.addi (bt (ix2 b j)) 128#32) (bt (ix2 b j))).toInt.toNat 127 := by
  have e : Ref.pageWord bt (ix3 b j 0)
      = Scalar.select (IntOp.cmpi CmpIPredicate.slt (bt (ix2 b j)) 0#32) (IntOp.addi (bt (ix2 b j)) 128#32) (bt (ix2 b j)) := by
    pointwise [Ref.pageWord]
  exact congrArg (fun w => min (BitVec.toInt w).toNat 127) e

/-- A page number counted from a shard's first page names the page that the whole pool's numbering does. -/
theorem page_word (w : BitVec 32) (h0 : 0 ≤ w.toInt) (h1 : w.toInt < 128) (y : Fin 2) (p : Fin 64) :
    IntOp.subi w (BitVec.ofNat 32 (64 * y.val)) = BitVec.ofNat 32 p.val
      ↔ min (Scalar.select (IntOp.cmpi CmpIPredicate.slt w 0#32) (IntOp.addi w 128#32) w).toInt.toNat 127 = 64 * y.val + p.val := by
  have hw : ∃ n : Fin 128, w = BitVec.ofNat 32 n.val :=
    ⟨⟨w.toInt.toNat, by omega⟩, BitVec.eq_of_toInt_eq (by
      dsimp only
      rw [BitVec.toInt_ofNat', Int.toNat_of_nonneg h0, Int.bmod_eq_of_le] <;> omega)⟩
  obtain ⟨n, rfl⟩ := hw
  clear h0 h1
  revert n y p
  decide +kernel

section Device

variable (m : (ℓ : Loc nD τ sig) → Buf (Elt Ideal) ℓ) (c : Dev nD) (bt : IVec S8x64 32) (ln : IVec S8 32)
  (hbt : m ((c.tc : Thread nD τ).loc main_arg3) = bt) (hln : m ((c.tc : Thread nD τ).loc main_arg4) = ln)
  (hb : ∀ b (j : Fin 64), liveSlot ln b j → 0 ≤ (bt (ix2 b j)).toInt ∧ (bt (ix2 b j)).toInt < 128)
include hbt hln hb

/-- A slot's number on a device is a page's of its shard exactly when the slot is live and reads that page. -/
theorem lp_eq_iff (b : Fin 8) (p j : Fin 64) :
    lp m c (ix2 b j) = BitVec.ofNat 32 p.val ↔ liveSlot ln b j ∧ slotPage bt b j = pageOf (shardOf c) p := by
  pointwise [lp, k0_pay1, stB_eq, stL_eq]
  rw [hbt, hln, shard_word, Fin.ext_iff, slotPage_val]
  by_cases hl : liveSlot ln b j
  · rw [show Scalar.select (IntOp.cmpi CmpIPredicate.slt (BitVec.ofNat 32 j.val) (ln (ix1 b))) _ 4294967295#32 = _ from if_pos hl]
    exact (page_word _ (hb b j hl).1 (hb b j hl).2 (shardOf c) p).trans ⟨fun e => ⟨hl, e⟩, fun e => e.2⟩
  · rw [show Scalar.select (IntOp.cmpi CmpIPredicate.slt (BitVec.ofNat 32 j.val) (ln (ix1 b))) _ 4294967295#32 = 4294967295#32 from if_neg hl]
    exact ⟨fun e => absurd e (dead_word p), fun e => absurd e.1 hl⟩

/-- The weight of a key of a shard: how many of the row's live slots read its page. -/
theorem weight_apply (b : Fin 8) (k : Fin 1024) :
    wgt m c (ix2 b k) = countOf (liveSlot ln b) (slotPage bt b) (pageOf (shardOf c) (keyP k)) := by
  rw [wgt_apply]
  exact Finset.sum_congr rfl fun j _ => if_congr (lp_eq_iff m c bt ln hbt hln hb b (keyP k) j) rfl rfl

end Device

/-- A device's pages are its shard of the pool. -/
theorem block_apply (X : Pages) (c : Dev nD) (p : Fin 64) (t : Fin 16) (h : Fin 8) (d : Fin 64) :
    Layout.blockN ⟨4, ![64, 16, 8, 64]⟩ ⟨4, ![128, 16, 8, 64]⟩ (Layout.meshBlock [2, 2] ![[1], [], [], []] c) X (by decide) (ix4 p t h d)
      = X (ix4 (pageOf (shardOf c) p) t h d) := by
  refine congrArg X (funext fun a => Fin.ext ?_)
  rw [Layout.TilesN.idx_val]
  have hc : (Layout.meshBlock [2, 2] (r := 4) ![[1], [], [], []] c (by decide) 0).val = c.val % 2 := by revert c; decide
  fin_cases a
  · show (Layout.meshBlock [2, 2] (r := 4) ![[1], [], [], []] c _ 0).val * 64 + p.val = 64 * (c.val % 2) + p.val
    omega
  · show 0 * 16 + t.val = t.val; omega
  · show 0 * 8 + h.val = h.val; omega
  · show 0 * 64 + d.val = d.val; omega

section Whole

variable (m : (ℓ : Loc nD τ sig) → Buf (Elt Ideal) ℓ) (Q : FVec Ideal S8x1x8x64 .f32) (K V : Pages) (bt : IVec S8x64 32) (ln : IVec S8 32)
  (hQ : ∀ c, devQ m c = Q)
  (hK : ∀ c (p : Fin 64) (t : Fin 16) (h : Fin 8) (d : Fin 64), devK m c (ix4 p t h d) = K (ix4 (pageOf (shardOf c) p) t h d))
  (hV : ∀ c (p : Fin 64) (t : Fin 16) (h : Fin 8) (d : Fin 64), devV m c (ix4 p t h d) = V (ix4 (pageOf (shardOf c) p) t h d))
  (hbt : ∀ c : Dev nD, m ((c.tc : Thread nD τ).loc main_arg3) = bt) (hln : ∀ c : Dev nD, m ((c.tc : Thread nD τ).loc main_arg4) = ln)
  (hg : ∀ c, Given (devQ m c) (devK m c) bt ln)
include hQ hK hV hbt hln hg

/-- A live slot's entry names a page of the pool, -/
theorem entry_bounds (b : Fin 8) (j : Fin 64) (hl : liveSlot ln b j) : 0 ≤ (bt (ix2 b j)).toInt ∧ (bt (ix2 b j)).toInt < 128 :=
  (hg 0).entry b j (IntOp.cmpi_slt.1 hl)

/-- and the first slot is live. -/
theorem first_live (b : Fin 8) : liveSlot ln b 0 :=
  IntOp.cmpi_slt.2 (lt_of_lt_of_le (by decide) ((hg 0).length b))

/-- A device's exponentials are those of the pool's scores. -/
theorem shardExp_score (c : Dev nD) (b H : Fin 8) (p : Fin 64) (t : Fin 16) :
    shardExp m c b H p t = Ideal.exp (score Q K b H (pageOf (shardOf c) p) t) := by
  unfold shardExp score
  simp only [hQ, hK]

/-- What a device's shard adds, in the pool's numbering. -/
theorem den_shard (c : Dev nD) (b H : Fin 8) : denH m c H (ix3 0 b 0)
    = shardSum (liveSlot ln b) (slotPage bt b) (fun P t => Ideal.exp (score Q K b H P t)) (shardOf c) := by
  rw [den_apply]
  refine Finset.sum_congr rfl fun x _ => ?_
  rw [weight_apply m c bt ln (hbt c) (hln c) (entry_bounds m Q K V bt ln hQ hK hV hbt hln hg),
    shardExp_score m Q K V bt ln hQ hK hV hbt hln hg]

/-- The same with the values. -/
theorem acc_shard (c : Dev nD) (b H : Fin 8) (d : Fin 64) : accH m c H (ix3 0 b d)
    = shardSum (liveSlot ln b) (slotPage bt b) (fun P t => Ideal.exp (score Q K b H P t) * V (ix4 P t H d)) (shardOf c) := by
  rw [acc_apply]
  refine Finset.sum_congr rfl fun x _ => ?_
  rw [weight_apply m c bt ln (hbt c) (hln c) (entry_bounds m Q K V bt ln hQ hK hV hbt hln hg),
    shardExp_score m Q K V bt ln hQ hK hV hbt hln hg, hV]

/-- Every score is a real. -/
theorem score_real (b H : Fin 8) : ∃ r : Fin 128 → Fin 16 → ℝ, ∀ P t, score Q K b H P t = (r P t : EReal) := by
  have hk : ∀ P t d, ∃ r : ℝ, K (ix4 P t H d) = r := fun P t d => by
    have hP := P.isLt
    have e := hK ⟨P.val / 64, by show P.val / 64 < 4; omega⟩ ⟨P.val % 64, by omega⟩ t H d
    rw [show pageOf (shardOf ⟨P.val / 64, by show P.val / 64 < 4; omega⟩) ⟨P.val % 64, by omega⟩ = P from
      Fin.ext (by show 64 * (P.val / 64 % 2) + P.val % 64 = P.val; omega)] at e
    rw [← e]
    exact (hg _).key _
  choose k hk using hk
  choose q hq using (hg 0).query
  rw [hQ] at hq
  refine ⟨fun P t => (∑ d : Fin 64, q (ix4 b 0 H d) * k P t d) * (1 / 8), fun P t => ?_⟩
  unfold score
  simp only [hk, hq, ofBits_eighth, ← EReal.coe_mul, ← coe_sum]

/-- Every device's result is the reference's. -/
theorem outC_eq (c : Dev nD) : outC m c = Ref.attend Q K V bt ln := by
  funext i
  obtain ⟨b, H, d, rfl⟩ : ∃ (b H : Fin 8) (d : Fin 64), i = ix4 b 0 H d :=
    ⟨i 0, i 2, i 3, funext fun a => by fin_cases a <;> first | rfl | exact Subsingleton.elim (α := Fin 1) _ _⟩
  obtain ⟨r, hr⟩ := score_real m Q K V bt ln hQ hK hV hbt hln hg b H
  rw [outC_apply, Ref.attend_apply, ← softmaxDot_eq _ _ _ _ r (fun j _ t => hr _ t) (first_live m Q K V bt ln hQ hK hV hbt hln hg b),
    den_shard m Q K V bt ln hQ hK hV hbt hln hg, den_shard m Q K V bt ln hQ hK hV hbt hln hg,
    acc_shard m Q K V bt ln hQ hK hV hbt hln hg, acc_shard m Q K V bt ln hQ hK hV hbt hln hg,
    shardSum_pair _ _ _ _ _ (shardOf_pr c), shardSum_pair _ _ _ _ _ (shardOf_pr c)]

end Whole

end Cert.Paged
-- ==== Proof.lean ====
/-
The claims, assembled from the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ends
public import proofs.«01_k».proof.Proof.Value
public import Idealize.ShloMosaic.Adequacy
public import Idealize.ShloMosaic.Lib.Quiescent
public import Idealize.ShloMosaic.Init

@[expose] public section

noncomputable section

namespace Cert.Proof

open Idealize.ShloMosaic Idealize.SL.Sem

/-- The kernel's two printed texts, over its own words and for any float values, are one table of bodies. -/
theorem bodies_eq : Cert.Kernel.defs₀ (F := Bits) = Cert.KernelIdeal.defs₀ (F := Bits) := by
  unfold Cert.Kernel.defs₀ Cert.KernelIdeal.defs₀
  congr 1
  funext l x
  match l, x with
  | 0, (t, s) =>
    dsimp only
    with_unfolding_all rfl

theorem defs_eq : Cert.Kernel.defs (F := Bits) = Cert.KernelIdeal.defs (F := Bits) :=
  congrArg (Pipeline.defs Cert.Kernel.pcfgs) bodies_eq

/-- The kernel over its own words terminates, leaves its arguments, and leaves every counter at zero: the run of
    the same text at those words. -/
theorem frame_kernel : Cert.quiescent_Kernel := fun m ρ _ => by
  rw [defs_eq]
  exact (θ_run Cert.KernelIdeal.defs _ _).mono (fun _ h => ⟨fun c => (h.1 c).2, h.2⟩) (Cert.Paged.run_ends (F := Bits) m ρ)

/-- The same over the extended reals. -/
theorem frame_ideal : Cert.quiescent_KernelIdeal := fun m ρ _ =>
  (θ_run Cert.KernelIdeal.defs _ _).mono (fun _ h => ⟨fun c => (h.1 c).2, h.2⟩) (Cert.Paged.run_ends (F := Ideal) m ρ)

/-- The reference: it has no counters. -/
theorem frame_reference : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

/-- The precondition's shapes fit, on a device's arrays and on the whole ones. -/
theorem facts_given : Cert.Pre_pre_KernelIdeal.Facts := by constructor <;> decide
theorem facts_given_whole : Cert.Pre_pre_ReferenceIdeal.Facts := by constructor <;> decide

/-- The kernel over the extended reals and the reference: every device ends with the reference's result. -/
theorem algebraic : Cert.algebraic_KernelIdeal_ReferenceIdeal_pre_pre_KernelIdeal (hPre_pre_KernelIdeal := facts_given) := by
  intro m g m' g' hpre hagree
  refine ⟨Cert.ReferenceIdeal.Value.res_main_v38 m' 0,
    (θ_run Cert.KernelIdeal.defs _ _).mono (fun r h c => ⟨(h.1 c).1.trans ?_, (h.1 c).2⟩) (Cert.Paged.run_ends (F := Ideal) m g),
    (θ_run Cert.ReferenceIdeal.defs _ _).mono (fun r h => h 0) (Cert.ReferenceIdeal.Value.run (F := Ideal) m' g')⟩
  rw [Cert.Paged.Ref.main_v38_eq]
  refine Cert.Paged.outC_eq m _ _ _ _ _ (fun c => (hagree c).1)
    (fun c p t h d => ?_) (fun c p t h d => ?_) (fun c => (hagree c).2.2.2.1) (fun c => (hagree c).2.2.2.2) (fun c => ?_) c
  · exact (congrFun (hagree c).2.1 _).trans (Cert.Paged.block_apply _ c p t h d)
  · exact (congrFun (hagree c).2.2.1 _).trans (Cert.Paged.block_apply _ c p t h d)
  · rw [← (hagree c).2.2.2.1, ← (hagree c).2.2.2.2]
    exact @Cert.Paged.given facts_given _ _ _ _ _ (hpre c)

theorem claim : Cert.Claim := ⟨Cert.Kernel.Gen.facts, Cert.KernelIdeal.Gen.facts, Cert.ReferenceIdeal.Gen.facts, facts_given, facts_given_whole,
  frame_kernel, frame_ideal, fun m ρ _ => frame_ideal m ρ trivial, frame_reference, fun m ρ _ => frame_reference m ρ trivial, trivial, algebraic⟩

end Cert.Proof

end
